-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S496x512 : Shape := ⟨2, ![496, 512]⟩
abbrev S10 : Shape := ⟨1, ![10]⟩
abbrev S_ : Shape := ⟨0, ![]⟩
abbrev S1 : Shape := ⟨1, ![1]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S496x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.xori v2 c8_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v7 : BitVec 32 := Scalar.xori v2 c1_i32_2
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v13 : BitVec 32 := Scalar.xori v2 c16_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v16 : BitVec 32 := Scalar.xori v2 c2_i32
  let c1_i32_13 : BitVec 32 := 1#32
  let v17 : BitVec 32 := Scalar.muli v16 c1_i32_13
  let v18 : BitVec 32 := Scalar.addi c0_i32_14 v17
  v18.toNat
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_22 : BitVec 32 := 0#32
  let c0_i32_21 : BitVec 32 := 0#32
  let c256_i32 : BitVec 32 := 256#32
  let v25 : BitVec 32 := Scalar.addi c0_i32_21 c256_i32
  let v26 : BitVec 32 := Scalar.select v24 c0_i32_22 v25
  v26
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  v29
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_22 : BitVec 32 := 0#32
  let c0_i32_21 : BitVec 32 := 0#32
  let c256_i32 : BitVec 32 := 256#32
  let v25 : BitVec 32 := Scalar.addi c0_i32_21 c256_i32
  let v26 : BitVec 32 := Scalar.select v24 c0_i32_22 v25
  let v27 : BitVec 32 := v26
  let c0_i32_32 : BitVec 32 := 0#32
  ![v27.toNat, 0]
def k0_dev6 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v22 : BitVec 32 := Scalar.xori v2 c8_i32_18
  let c1_i32_28 : BitVec 32 := 1#32
  let v31 : BitVec 32 := Scalar.muli v22 c1_i32_28
  let v32 : BitVec 32 := Scalar.addi c0_i32_29 v31
  v32.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let v49 : Index := Scalar.indexCast v30
  let c0_46 : Index := 0#32
  ![v49.toNat, 0]
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32 : BitVec 32 := 128#32
  let v59 : BitVec 32 := Scalar.addi v30 c128_i32
  let v60 : BitVec 32 := Scalar.select v58 v30 v59
  v60
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  v63
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32 : BitVec 32 := 128#32
  let v59 : BitVec 32 := Scalar.addi v30 c128_i32
  let v60 : BitVec 32 := Scalar.select v58 v30 v59
  let v61 : BitVec 32 := v60
  let c0_i32_60 : BitVec 32 := 0#32
  ![v61.toNat, 0]
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v56 : BitVec 32 := Scalar.xori v2 c1_i32_50
  let c1_i32_56 : BitVec 32 := 1#32
  let v65 : BitVec 32 := Scalar.muli v56 c1_i32_56
  let v66 : BitVec 32 := Scalar.addi c0_i32_57 v65
  v66.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let v83 : Index := Scalar.indexCast v64
  let c0_74 : Index := 0#32
  ![v83.toNat, 0]
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32 : BitVec 32 := 64#32
  let v93 : BitVec 32 := Scalar.addi v64 c64_i32
  let v94 : BitVec 32 := Scalar.select v92 v64 v93
  v94
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  v97
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32 : BitVec 32 := 64#32
  let v93 : BitVec 32 := Scalar.addi v64 c64_i32
  let v94 : BitVec 32 := Scalar.select v92 v64 v93
  let v95 : BitVec 32 := v94
  let c0_i32_86 : BitVec 32 := 0#32
  ![v95.toNat, 0]
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_77 : BitVec 32 := 4#32
  let v90 : BitVec 32 := Scalar.xori v2 c4_i32_77
  let c1_i32_83 : BitVec 32 := 1#32
  let v99 : BitVec 32 := Scalar.muli v90 c1_i32_83
  let v100 : BitVec 32 := Scalar.addi c0_i32_84 v99
  v100.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let v117 : Index := Scalar.indexCast v98
  let c0_100 : Index := 0#32
  ![v117.toNat, 0]
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_106 : BitVec 32 := 32#32
  let v127 : BitVec 32 := Scalar.addi v98 c32_i32_106
  let v128 : BitVec 32 := Scalar.select v126 v98 v127
  v128
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  v131
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_106 : BitVec 32 := 32#32
  let v127 : BitVec 32 := Scalar.addi v98 c32_i32_106
  let v128 : BitVec 32 := Scalar.select v126 v98 v127
  let v129 : BitVec 32 := v128
  let c0_i32_112 : BitVec 32 := 0#32
  ![v129.toNat, 0]
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_103 : BitVec 32 := 16#32
  let v124 : BitVec 32 := Scalar.xori v2 c16_i32_103
  let c1_i32_109 : BitVec 32 := 1#32
  let v133 : BitVec 32 := Scalar.muli v124 c1_i32_109
  let v134 : BitVec 32 := Scalar.addi c0_i32_110 v133
  v134.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let v151 : Index := Scalar.indexCast v132
  let c0_126 : Index := 0#32
  ![v151.toNat, 0]
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_132 : BitVec 32 := 16#32
  let v161 : BitVec 32 := Scalar.addi v132 c16_i32_132
  let v162 : BitVec 32 := Scalar.select v160 v132 v161
  v162
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  v165
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_132 : BitVec 32 := 16#32
  let v161 : BitVec 32 := Scalar.addi v132 c16_i32_132
  let v162 : BitVec 32 := Scalar.select v160 v132 v161
  let v163 : BitVec 32 := v162
  let c0_i32_139 : BitVec 32 := 0#32
  ![v163.toNat, 0]
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_129 : BitVec 32 := 2#32
  let v158 : BitVec 32 := Scalar.xori v2 c2_i32_129
  let c1_i32_136 : BitVec 32 := 1#32
  let v167 : BitVec 32 := Scalar.muli v158 c1_i32_136
  let v168 : BitVec 32 := Scalar.addi c0_i32_137 v167
  v168.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v185 : Index := Scalar.indexCast v166
  let c0_153 : Index := 0#32
  ![v185.toNat, 0]
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  v166
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c0_i32_161 : BitVec 32 := 0#32
  ![v192.toNat, 0]
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_156 : BitVec 32 := 2#32
  let v193 : BitVec 32 := Scalar.xori v2 c2_i32_156
  let c1_i32_159 : BitVec 32 := 1#32
  let v194 : BitVec 32 := Scalar.muli v193 c1_i32_159
  let v195 : BitVec 32 := Scalar.addi c0_i32_160 v194
  v195.toNat
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  v217
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c0_i32_182 : BitVec 32 := 0#32
  ![v218.toNat, 0]
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_178 : BitVec 32 := 16#32
  let v219 : BitVec 32 := Scalar.xori v2 c16_i32_178
  let c1_i32_180 : BitVec 32 := 1#32
  let v220 : BitVec 32 := Scalar.muli v219 c1_i32_180
  let v221 : BitVec 32 := Scalar.addi c0_i32_181 v220
  v221.toNat
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c16_i32_195 : BitVec 32 := 16#32
  let v238 : BitVec 32 := Scalar.andi v2 c16_i32_195
  let c0_i32_196 : BitVec 32 := 0#32
  let v239 : BitVec 1 := Scalar.cmpi .ne v238 c0_i32_196
  let c32_i32_197 : BitVec 32 := 32#32
  let v240 : BitVec 32 := Scalar.subi v218 c32_i32_197
  let c32_i32_198 : BitVec 32 := 32#32
  let v241 : BitVec 32 := Scalar.addi v218 c32_i32_198
  let v242 : BitVec 32 := Scalar.select v239 v240 v241
  let v243 : BitVec 32 := Scalar.minsi v218 v242
  v243
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c16_i32_195 : BitVec 32 := 16#32
  let v238 : BitVec 32 := Scalar.andi v2 c16_i32_195
  let c0_i32_196 : BitVec 32 := 0#32
  let v239 : BitVec 1 := Scalar.cmpi .ne v238 c0_i32_196
  let c32_i32_197 : BitVec 32 := 32#32
  let v240 : BitVec 32 := Scalar.subi v218 c32_i32_197
  let c32_i32_198 : BitVec 32 := 32#32
  let v241 : BitVec 32 := Scalar.addi v218 c32_i32_198
  let v242 : BitVec 32 := Scalar.select v239 v240 v241
  let v243 : BitVec 32 := Scalar.minsi v218 v242
  let v244 : BitVec 32 := v243
  let c0_i32_203 : BitVec 32 := 0#32
  ![v244.toNat, 0]
def k0_dev13 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_199 : BitVec 32 := 4#32
  let v245 : BitVec 32 := Scalar.xori v2 c4_i32_199
  let c1_i32_201 : BitVec 32 := 1#32
  let v246 : BitVec 32 := Scalar.muli v245 c1_i32_201
  let v247 : BitVec 32 := Scalar.addi c0_i32_202 v246
  v247.toNat
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c16_i32_195 : BitVec 32 := 16#32
  let v238 : BitVec 32 := Scalar.andi v2 c16_i32_195
  let c0_i32_196 : BitVec 32 := 0#32
  let v239 : BitVec 1 := Scalar.cmpi .ne v238 c0_i32_196
  let c32_i32_197 : BitVec 32 := 32#32
  let v240 : BitVec 32 := Scalar.subi v218 c32_i32_197
  let c32_i32_198 : BitVec 32 := 32#32
  let v241 : BitVec 32 := Scalar.addi v218 c32_i32_198
  let v242 : BitVec 32 := Scalar.select v239 v240 v241
  let v243 : BitVec 32 := Scalar.minsi v218 v242
  let v244 : BitVec 32 := v243
  let c4_i32_216 : BitVec 32 := 4#32
  let v264 : BitVec 32 := Scalar.andi v2 c4_i32_216
  let c0_i32_217 : BitVec 32 := 0#32
  let v265 : BitVec 1 := Scalar.cmpi .ne v264 c0_i32_217
  let c64_i32_218 : BitVec 32 := 64#32
  let v266 : BitVec 32 := Scalar.subi v244 c64_i32_218
  let c64_i32_219 : BitVec 32 := 64#32
  let v267 : BitVec 32 := Scalar.addi v244 c64_i32_219
  let v268 : BitVec 32 := Scalar.select v265 v266 v267
  let v269 : BitVec 32 := Scalar.minsi v244 v268
  v269
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c16_i32_195 : BitVec 32 := 16#32
  let v238 : BitVec 32 := Scalar.andi v2 c16_i32_195
  let c0_i32_196 : BitVec 32 := 0#32
  let v239 : BitVec 1 := Scalar.cmpi .ne v238 c0_i32_196
  let c32_i32_197 : BitVec 32 := 32#32
  let v240 : BitVec 32 := Scalar.subi v218 c32_i32_197
  let c32_i32_198 : BitVec 32 := 32#32
  let v241 : BitVec 32 := Scalar.addi v218 c32_i32_198
  let v242 : BitVec 32 := Scalar.select v239 v240 v241
  let v243 : BitVec 32 := Scalar.minsi v218 v242
  let v244 : BitVec 32 := v243
  let c4_i32_216 : BitVec 32 := 4#32
  let v264 : BitVec 32 := Scalar.andi v2 c4_i32_216
  let c0_i32_217 : BitVec 32 := 0#32
  let v265 : BitVec 1 := Scalar.cmpi .ne v264 c0_i32_217
  let c64_i32_218 : BitVec 32 := 64#32
  let v266 : BitVec 32 := Scalar.subi v244 c64_i32_218
  let c64_i32_219 : BitVec 32 := 64#32
  let v267 : BitVec 32 := Scalar.addi v244 c64_i32_219
  let v268 : BitVec 32 := Scalar.select v265 v266 v267
  let v269 : BitVec 32 := Scalar.minsi v244 v268
  let v270 : BitVec 32 := v269
  let c0_i32_225 : BitVec 32 := 0#32
  ![v270.toNat, 0]
def k0_dev14 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_220 : BitVec 32 := 1#32
  let v271 : BitVec 32 := Scalar.xori v2 c1_i32_220
  let c1_i32_223 : BitVec 32 := 1#32
  let v272 : BitVec 32 := Scalar.muli v271 c1_i32_223
  let v273 : BitVec 32 := Scalar.addi c0_i32_224 v272
  v273.toNat
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c16_i32_195 : BitVec 32 := 16#32
  let v238 : BitVec 32 := Scalar.andi v2 c16_i32_195
  let c0_i32_196 : BitVec 32 := 0#32
  let v239 : BitVec 1 := Scalar.cmpi .ne v238 c0_i32_196
  let c32_i32_197 : BitVec 32 := 32#32
  let v240 : BitVec 32 := Scalar.subi v218 c32_i32_197
  let c32_i32_198 : BitVec 32 := 32#32
  let v241 : BitVec 32 := Scalar.addi v218 c32_i32_198
  let v242 : BitVec 32 := Scalar.select v239 v240 v241
  let v243 : BitVec 32 := Scalar.minsi v218 v242
  let v244 : BitVec 32 := v243
  let c4_i32_216 : BitVec 32 := 4#32
  let v264 : BitVec 32 := Scalar.andi v2 c4_i32_216
  let c0_i32_217 : BitVec 32 := 0#32
  let v265 : BitVec 1 := Scalar.cmpi .ne v264 c0_i32_217
  let c64_i32_218 : BitVec 32 := 64#32
  let v266 : BitVec 32 := Scalar.subi v244 c64_i32_218
  let c64_i32_219 : BitVec 32 := 64#32
  let v267 : BitVec 32 := Scalar.addi v244 c64_i32_219
  let v268 : BitVec 32 := Scalar.select v265 v266 v267
  let v269 : BitVec 32 := Scalar.minsi v244 v268
  let v270 : BitVec 32 := v269
  let c1_i32_238 : BitVec 32 := 1#32
  let v290 : BitVec 32 := Scalar.andi v2 c1_i32_238
  let c0_i32_239 : BitVec 32 := 0#32
  let v291 : BitVec 1 := Scalar.cmpi .ne v290 c0_i32_239
  let c128_i32_240 : BitVec 32 := 128#32
  let v292 : BitVec 32 := Scalar.subi v270 c128_i32_240
  let c128_i32_241 : BitVec 32 := 128#32
  let v293 : BitVec 32 := Scalar.addi v270 c128_i32_241
  let v294 : BitVec 32 := Scalar.select v291 v292 v293
  let v295 : BitVec 32 := Scalar.minsi v270 v294
  v295
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_130 : BitVec 32 := 2#32
  let v159 : BitVec 32 := Scalar.andi v2 c2_i32_130
  let c0_i32_131 : BitVec 32 := 0#32
  let v160 : BitVec 1 := Scalar.cmpi .ne v159 c0_i32_131
  let c16_i32_104 : BitVec 32 := 16#32
  let v125 : BitVec 32 := Scalar.andi v2 c16_i32_104
  let c0_i32_105 : BitVec 32 := 0#32
  let v126 : BitVec 1 := Scalar.cmpi .ne v125 c0_i32_105
  let c4_i32_78 : BitVec 32 := 4#32
  let v91 : BitVec 32 := Scalar.andi v2 c4_i32_78
  let c0_i32_79 : BitVec 32 := 0#32
  let v92 : BitVec 1 := Scalar.cmpi .ne v91 c0_i32_79
  let c1_i32_51 : BitVec 32 := 1#32
  let v57 : BitVec 32 := Scalar.andi v2 c1_i32_51
  let c0_i32_52 : BitVec 32 := 0#32
  let v58 : BitVec 1 := Scalar.cmpi .ne v57 c0_i32_52
  let c8_i32_19 : BitVec 32 := 8#32
  let v23 : BitVec 32 := Scalar.andi v2 c8_i32_19
  let c0_i32_20 : BitVec 32 := 0#32
  let v24 : BitVec 1 := Scalar.cmpi .ne v23 c0_i32_20
  let c0_i32_23 : BitVec 32 := 0#32
  let c256_i32_24 : BitVec 32 := 256#32
  let v28 : BitVec 32 := Scalar.addi c0_i32_23 c256_i32_24
  let c0_i32_25 : BitVec 32 := 0#32
  let v29 : BitVec 32 := Scalar.select v24 v28 c0_i32_25
  let v30 : BitVec 32 := v29
  let c128_i32_53 : BitVec 32 := 128#32
  let v62 : BitVec 32 := Scalar.addi v30 c128_i32_53
  let v63 : BitVec 32 := Scalar.select v58 v62 v30
  let v64 : BitVec 32 := v63
  let c64_i32_80 : BitVec 32 := 64#32
  let v96 : BitVec 32 := Scalar.addi v64 c64_i32_80
  let v97 : BitVec 32 := Scalar.select v92 v96 v64
  let v98 : BitVec 32 := v97
  let c32_i32_107 : BitVec 32 := 32#32
  let v130 : BitVec 32 := Scalar.addi v98 c32_i32_107
  let v131 : BitVec 32 := Scalar.select v126 v130 v98
  let v132 : BitVec 32 := v131
  let c16_i32_133 : BitVec 32 := 16#32
  let v164 : BitVec 32 := Scalar.addi v132 c16_i32_133
  let v165 : BitVec 32 := Scalar.select v160 v164 v132
  let v166 : BitVec 32 := v165
  let v192 : BitVec 32 := v166
  let c2_i32_174 : BitVec 32 := 2#32
  let v212 : BitVec 32 := Scalar.andi v2 c2_i32_174
  let c0_i32_175 : BitVec 32 := 0#32
  let v213 : BitVec 1 := Scalar.cmpi .ne v212 c0_i32_175
  let c16_i32_176 : BitVec 32 := 16#32
  let v214 : BitVec 32 := Scalar.subi v192 c16_i32_176
  let c16_i32_177 : BitVec 32 := 16#32
  let v215 : BitVec 32 := Scalar.addi v192 c16_i32_177
  let v216 : BitVec 32 := Scalar.select v213 v214 v215
  let v217 : BitVec 32 := Scalar.minsi v192 v216
  let v218 : BitVec 32 := v217
  let c16_i32_195 : BitVec 32 := 16#32
  let v238 : BitVec 32 := Scalar.andi v2 c16_i32_195
  let c0_i32_196 : BitVec 32 := 0#32
  let v239 : BitVec 1 := Scalar.cmpi .ne v238 c0_i32_196
  let c32_i32_197 : BitVec 32 := 32#32
  let v240 : BitVec 32 := Scalar.subi v218 c32_i32_197
  let c32_i32_198 : BitVec 32 := 32#32
  let v241 : BitVec 32 := Scalar.addi v218 c32_i32_198
  let v242 : BitVec 32 := Scalar.select v239 v240 v241
  let v243 : BitVec 32 := Scalar.minsi v218 v242
  let v244 : BitVec 32 := v243
  let c4_i32_216 : BitVec 32 := 4#32
  let v264 : BitVec 32 := Scalar.andi v2 c4_i32_216
  let c0_i32_217 : BitVec 32 := 0#32
  let v265 : BitVec 1 := Scalar.cmpi .ne v264 c0_i32_217
  let c64_i32_218 : BitVec 32 := 64#32
  let v266 : BitVec 32 := Scalar.subi v244 c64_i32_218
  let c64_i32_219 : BitVec 32 := 64#32
  let v267 : BitVec 32 := Scalar.addi v244 c64_i32_219
  let v268 : BitVec 32 := Scalar.select v265 v266 v267
  let v269 : BitVec 32 := Scalar.minsi v244 v268
  let v270 : BitVec 32 := v269
  let c1_i32_238 : BitVec 32 := 1#32
  let v290 : BitVec 32 := Scalar.andi v2 c1_i32_238
  let c0_i32_239 : BitVec 32 := 0#32
  let v291 : BitVec 1 := Scalar.cmpi .ne v290 c0_i32_239
  let c128_i32_240 : BitVec 32 := 128#32
  let v292 : BitVec 32 := Scalar.subi v270 c128_i32_240
  let c128_i32_241 : BitVec 32 := 128#32
  let v293 : BitVec 32 := Scalar.addi v270 c128_i32_241
  let v294 : BitVec 32 := Scalar.select v291 v292 v293
  let v295 : BitVec 32 := Scalar.minsi v270 v294
  let v296 : BitVec 32 := v295
  let c0_i32_246 : BitVec 32 := 0#32
  ![v296.toNat, 0]
def k0_dev15 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_242 : BitVec 32 := 8#32
  let v297 : BitVec 32 := Scalar.xori v2 c8_i32_242
  let c1_i32_244 : BitVec 32 := 1#32
  let v298 : BitVec 32 := Scalar.muli v297 c1_i32_244
  let v299 : BitVec 32 := Scalar.addi c0_i32_245 v298
  v299.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S32x512x512 : Shape := ⟨3, ![32, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S32x512x512, .f32⟩
  | .hbm, ⟨2, _⟩ => ⟨S_, .f32⟩
  | .hbm, ⟨3, _⟩ => ⟨S512x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cube.lean ====
/-
# The hypercube of the 32 devices, and the bands of rows each step works on

Step `s` of the reduction pairs device `c` with the device whose number differs in one bit, `prt s c`. Before the step
`c` works on the band of `wid s` rows from `lo s c`; it keeps the half from `lo (s+1) c` and gives away the half from
`gv s c`. Everything here is arithmetic on device numbers, checked over the five steps and the 32 devices.
-/
module

public import proofs.«01_k».proof.Proof.Gen.KernelIdeal

@[expose] public section

noncomputable section

namespace Cert.CubeProof

open Cert.KernelIdeal Cert.KernelIdeal.Gen
open Idealize.ShloMosaic
open Idealize.ShloMosaic.TcCoe

set_option backward.proofsInPublic true in
/-- The bit of the device number that step `s` flips. -/
def bit : ℕ → ℕ
  | 0 => 8 | 1 => 1 | 2 => 4 | 3 => 16 | _ => 2

set_option backward.proofsInPublic true in
/-- The partner of device `c` at step `s`. -/
def prt (s : ℕ) (c : Dev nD) : Dev nD := ⟨(c.val ^^^ bit s) % 32, Nat.mod_lt _ (by decide)⟩

/-- How many rows a device works on before step `s`. -/
def wid : ℕ → ℕ
  | 0 => 512 | 1 => 256 | 2 => 128 | 3 => 64 | 4 => 32 | _ => 16

set_option backward.proofsInPublic true in
/-- The first row of the band device `c` works on before step `s`: a device whose bit is set keeps the upper half. -/
def lo : ℕ → Dev nD → ℕ
  | 0, _ => 0
  | s + 1, c => lo s c + if c.val &&& bit s = 0 then 0 else wid (s + 1)

set_option backward.proofsInPublic true in
/-- The first row of the half device `c` gives away at step `s`. -/
def gv (s : ℕ) (c : Dev nD) : ℕ := lo s c + if c.val &&& bit s = 0 then wid (s + 1) else 0

/-- Where step `s`'s landing slot begins in the scratch buffer. -/
def offS (s : ℕ) : ℕ := 512 - wid s

set_option backward.proofsInPublic true in
/-- The device whose last band is the `q`-th group of sixteen rows: the bits of `q` name, from the highest, the bits of
    the device number in the order the steps flip them. -/
def own (q : ℕ) : Dev nD :=
  ⟨((q / 16 % 2) * 8 + (q / 8 % 2) * 1 + (q / 4 % 2) * 4 + (q / 2 % 2) * 16 + (q % 2) * 2) % 32, Nat.mod_lt _ (by decide)⟩

/-! ## Facts of the partners -/

/-- The partner's partner is the device itself. -/
theorem prt_prt : ∀ (s : Fin 5) (c : Dev nD), prt s (prt s c) = c := by decide +kernel

/-- Pairing off at step `s`, as a permutation of the devices. -/
def pair (s : Fin 5) : Dev nD ≃ Dev nD := ⟨prt s, prt s, prt_prt s, prt_prt s⟩

/-- A device's five partners are different. -/
theorem prt_inj : ∀ (c : Dev nD) (s t : Fin 5), prt s c = prt t c → s = t := by decide +kernel

/-! ## Facts of the bands -/

theorem lo_prt : ∀ (s : Fin 5) (c : Dev nD), lo s (prt s c) = lo s c := by decide +kernel
theorem gv_prt : ∀ (s : Fin 5) (c : Dev nD), gv s (prt s c) = lo (s + 1) c := by decide +kernel
theorem lo_succ_prt : ∀ (s : Fin 5) (c : Dev nD), lo (s + 1) (prt s c) = gv s c := by decide +kernel

/-- A device's band before step `s` is the half it keeps and the half it gives, in one order or the other. -/
theorem halves : ∀ (s : Fin 5) (c : Dev nD), wid s = wid (s + 1) + wid (s + 1) ∧
    ((lo (s + 1) c = lo s c ∧ gv s c = lo s c + wid (s + 1)) ∨ (gv s c = lo s c ∧ lo (s + 1) c = lo s c + wid (s + 1))) := by
  decide +kernel

theorem lo_le : ∀ (s : Fin 5) (c : Dev nD), lo (s + 1) c + wid (s + 1) ≤ 512 := by decide +kernel
theorem gv_le : ∀ (s : Fin 5) (c : Dev nD), gv s c + wid (s + 1) ≤ 512 := by decide +kernel
theorem offS_le : ∀ s : Fin 5, offS s + wid (s + 1) ≤ 496 := by decide +kernel
theorem wid_pos : ∀ s : Fin 5, 0 < wid (s + 1) := by decide +kernel

/-- The last band of device `c` is a group of sixteen rows, and `c` is the device that group names. -/
theorem own_lo : ∀ c : Dev nD, lo 5 c % 16 = 0 ∧ own (lo 5 c / 16) = c := by decide +kernel
/-- Every group of sixteen rows is the last band of the device it names. -/
theorem lo_own : ∀ q : Fin 32, lo 5 (own q) = 16 * q := by decide +kernel

/-! ## The kernel's device numbers -/

theorem dev1_eq : ∀ c : Dev nD, (⟨k0_dev1 c, k0_dev1_lt c⟩ : Dev nD) = prt 0 c := by decide +kernel
theorem dev2_eq : ∀ c : Dev nD, (⟨k0_dev2 c, k0_dev2_lt c⟩ : Dev nD) = prt 1 c := by decide +kernel
theorem dev3_eq : ∀ c : Dev nD, (⟨k0_dev3 c, k0_dev3_lt c⟩ : Dev nD) = prt 2 c := by decide +kernel
theorem dev4_eq : ∀ c : Dev nD, (⟨k0_dev4 c, k0_dev4_lt c⟩ : Dev nD) = prt 3 c := by decide +kernel
theorem dev5_eq : ∀ c : Dev nD, (⟨k0_dev5 c, k0_dev5_lt c⟩ : Dev nD) = prt 4 c := by decide +kernel
theorem dev6_eq : ∀ c : Dev nD, (⟨k0_dev6 c, k0_dev6_lt c⟩ : Dev nD) = prt 0 c := by decide +kernel
theorem dev7_eq : ∀ c : Dev nD, (⟨k0_dev7 c, k0_dev7_lt c⟩ : Dev nD) = prt 1 c := by decide +kernel
theorem dev8_eq : ∀ c : Dev nD, (⟨k0_dev8 c, k0_dev8_lt c⟩ : Dev nD) = prt 2 c := by decide +kernel
theorem dev9_eq : ∀ c : Dev nD, (⟨k0_dev9 c, k0_dev9_lt c⟩ : Dev nD) = prt 3 c := by decide +kernel
theorem dev10_eq : ∀ c : Dev nD, (⟨k0_dev10 c, k0_dev10_lt c⟩ : Dev nD) = prt 4 c := by decide +kernel
theorem dev11_eq : ∀ c : Dev nD, (⟨k0_dev11 c, k0_dev11_lt c⟩ : Dev nD) = prt 4 c := by decide +kernel
theorem dev12_eq : ∀ c : Dev nD, (⟨k0_dev12 c, k0_dev12_lt c⟩ : Dev nD) = prt 3 c := by decide +kernel
theorem dev13_eq : ∀ c : Dev nD, (⟨k0_dev13 c, k0_dev13_lt c⟩ : Dev nD) = prt 2 c := by decide +kernel
theorem dev14_eq : ∀ c : Dev nD, (⟨k0_dev14 c, k0_dev14_lt c⟩ : Dev nD) = prt 1 c := by decide +kernel
theorem dev15_eq : ∀ c : Dev nD, (⟨k0_dev15 c, k0_dev15_lt c⟩ : Dev nD) = prt 0 c := by decide +kernel

/-! ## The kernel's row offsets -/

theorem off1_eq : ∀ c : Dev nD, k0_off1 c = ![gv 0 c, 0] := by decide +kernel
theorem off2_eq : ∀ c : Dev nD, k0_off2 c = ![lo 1 c, 0] := by decide +kernel
theorem off3_eq : ∀ c : Dev nD, k0_off3 c = ![gv 1 c, 0] := by decide +kernel
theorem off4_eq : ∀ c : Dev nD, k0_off4 c = ![lo 2 c, 0] := by decide +kernel
theorem off5_eq : ∀ c : Dev nD, k0_off5 c = ![gv 2 c, 0] := by decide +kernel
theorem off6_eq : ∀ c : Dev nD, k0_off6 c = ![lo 3 c, 0] := by decide +kernel
theorem off7_eq : ∀ c : Dev nD, k0_off7 c = ![gv 3 c, 0] := by decide +kernel
theorem off8_eq : ∀ c : Dev nD, k0_off8 c = ![lo 4 c, 0] := by decide +kernel
theorem off9_eq : ∀ c : Dev nD, k0_off9 c = ![gv 4 c, 0] := by decide +kernel
theorem off10_eq : ∀ c : Dev nD, k0_off10 c = ![lo 5 c, 0] := by decide +kernel
theorem off11_eq : ∀ c : Dev nD, k0_off11 c = ![lo 5 c, 0] := by decide +kernel
theorem off12_eq : ∀ c : Dev nD, k0_off12 c = ![lo 4 c, 0] := by decide +kernel
theorem off13_eq : ∀ c : Dev nD, k0_off13 c = ![lo 3 c, 0] := by decide +kernel
theorem off14_eq : ∀ c : Dev nD, k0_off14 c = ![lo 2 c, 0] := by decide +kernel
theorem off15_eq : ∀ c : Dev nD, k0_off15 c = ![lo 1 c, 0] := by decide +kernel

end Cert.CubeProof

end
-- ==== Proof.Contents.lean ====
/-
# What the buffers hold

The partial sums `acc`: before step 0 device `c` holds its own block of `x`, and step `s` adds, element by element, what
its partner held. The finished array `fin` takes each group of sixteen rows from the device that ends up with it. Below
them, what one read, one write and one landing through a band of rows does to such contents.
-/
module

public import proofs.«01_k».proof.Proof.Cube
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value

@[expose] public section

noncomputable section

namespace Cert.CubeProof

open Cert.KernelIdeal Cert.KernelIdeal.Gen
open Idealize.ShloMosaic
open Idealize.ShloMosaic.TcCoe

variable {F : FTy → Type} [FloatOps F]

/-! ## The arrays -/

abbrev xM : Memref sig .tc .vmem S512x512 .f32 := Memref.whole cc0_stg0_0
abbrev oM : Memref sig .tc .vmem S512x512 .f32 := Memref.whole cc0_stg1_0
abbrev rM : Memref sig .tc .vmem S496x512 .f32 := Memref.whole cc0_scratch0

/-- The contents of a 512×512 buffer. -/
abbrev Blk (F : FTy → Type) : Type := S512x512.Idx → Elt F .f32

/-- What device `c` holds before step `s`, when device `d` starts from `x d`: its own partial sum plus its partner's. -/
def acc (x : Dev nD → Blk F) : ℕ → Dev nD → Blk F
  | 0, c => x c
  | s + 1, c => fun i => FloatOps.addf (acc x s c i) (acc x s (prt s c) i)

/-- The finished array: a row's value is the last partial sum of the device its group of sixteen rows names. -/
def fin (x : Dev nD → Blk F) : Blk F := fun i => acc x 5 (own ((i 0).val / 16)) i

/-! ## Bands of rows -/

/-- The elements of the rows `l`, …, `l + n - 1` of an array of `M` rows. -/
def band (M l n : ℕ) : Finset (Shape.Idx ⟨2, ![M, 512]⟩) :=
  Finset.univ.filter fun i => l ≤ (i 0).val ∧ (i 0).val < l + n

theorem mem_band {M l n : ℕ} {i : Shape.Idx ⟨2, ![M, 512]⟩} : i ∈ band M l n ↔ l ≤ (i 0).val ∧ (i 0).val < l + n := by
  simp [band]

/-- Every element is in the band of all the rows. -/
theorem band_all (M : ℕ) : band M 0 M = Finset.univ := by
  ext i
  have h : (i 0).val < M := (i 0).isLt
  simp only [mem_band, Finset.mem_univ, iff_true]
  omega

/-- Bands one after the other share nothing. -/
theorem band_disjoint {M l n l' n' : ℕ} (h : l + n ≤ l' ∨ l' + n' ≤ l) : Disjoint (band M l n) (band M l' n') := by
  rw [Finset.disjoint_left]
  intro i hi hi'
  rw [mem_band] at hi hi'
  omega

/-- The two halves of a device's band share nothing, -/
theorem half_disjoint (s : Fin 5) (c : Dev nD) : Disjoint (band 512 (lo (s + 1) c) (wid (s + 1))) (band 512 (gv s c) (wid (s + 1))) := by
  obtain ⟨-, h | h⟩ := halves s c <;> exact band_disjoint (by omega)

/-- and make up the band. -/
theorem half_union (s : Fin 5) (c : Dev nD) :
    band 512 (lo s c) (wid s) = band 512 (lo (s + 1) c) (wid (s + 1)) ∪ band 512 (gv s c) (wid (s + 1)) := by
  ext i
  rw [Finset.mem_union, mem_band, mem_band, mem_band]
  obtain ⟨hw, h | h⟩ := halves s c <;> omega

/-- The rectangle of the rows `l`, …, `l + n - 1` covers that band. -/
theorem rows_set (M l n : ℕ) (h : ∀ a, (![l, 0] : Fin 2 → ℕ) a + (![n, 512] : Fin 2 → ℕ) a ≤ (⟨2, ![M, 512]⟩ : Shape).size a) :
    (Rect.unit (s := ⟨2, ![M, 512]⟩) ![l, 0] ![n, 512] h).set = band M l n := by
  ext i
  have h1 : (i 1).val < 512 := (i 1).isLt
  rw [Rect.mem_set_unit, mem_band]
  constructor
  · intro hi; exact hi 0
  · intro hi a
    match a with
    | ⟨0, _⟩ => exact hi
    | ⟨1, _⟩ => exact ⟨Nat.zero_le _, by show (i 1).val < 0 + 512; omega⟩

/-- Rows that end by the last one are within the array. -/
theorem rows_inb {M l n : ℕ} (h : l + n ≤ M) :
    ∀ a, (![l, 0] : Fin 2 → ℕ) a + (![n, 512] : Fin 2 → ℕ) a ≤ (⟨2, ![M, 512]⟩ : Shape).size a
  | ⟨0, _⟩ => h
  | ⟨1, _⟩ => by show 0 + 512 ≤ 512; omega

/-- The rows `l`, …, `l + n - 1` of the output buffer, -/
abbrev oRows (l n : ℕ) (h : ∀ a, (![l, 0] : Fin 2 → ℕ) a + (![n, 512] : Fin 2 → ℕ) a ≤ S512x512.size a) :
    View sig .tc .vmem ⟨2, ![n, 512]⟩ .f32 :=
  (oM : Memref sig .tc .vmem S512x512 .f32).view.slice (Rect.unit (s := S512x512) ![l, 0] ![n, 512] h)

/-- and of the scratch buffer. -/
abbrev rRows (l n : ℕ) (h : ∀ a, (![l, 0] : Fin 2 → ℕ) a + (![n, 512] : Fin 2 → ℕ) a ≤ S496x512.size a) :
    View sig .tc .vmem ⟨2, ![n, 512]⟩ .f32 :=
  (rM : Memref sig .tc .vmem S496x512 .f32).view.slice (Rect.unit (s := S496x512) ![l, 0] ![n, 512] h)

theorem oRows_set (l n : ℕ) (h) : (oRows l n h).set = band 512 l n := by
  show ((View.whole cc0_stg1_0).slice _).set = _
  rw [View.set_slice_whole]; exact rows_set 512 l n h

theorem rRows_set (l n : ℕ) (h) : (rRows l n h).set = band 496 l n := by
  show ((View.whole cc0_scratch0).slice _).set = _
  rw [View.set_slice_whole]; exact rows_set 496 l n h

/-! ## Reads and writes through a band -/

/-- Writing into the rows what the same rows of `g` hold leaves `g` on them. -/
theorem write_read_rows (l n : ℕ) (h) (f g : Blk F) :
    ∀ i ∈ band 512 l n, (oRows l n h).write (Elt F) f ((oRows l n h).read (Elt F) g) Finset.univ i = g i := by
  intro i hi
  rw [View.write_read_eq_piecewise]
  exact Finset.piecewise_eq_of_mem _ _ _ (by rw [View.setOn_univ, oRows_set]; exact hi)

/-- The sum of the rows read off two arrays is the rows read off their sum. -/
theorem addf_read_rows (l n : ℕ) (h) (f g : Blk F) :
    addf ((oRows l n h).read (Elt F) f : FVec F ⟨2, ![n, 512]⟩ .f32) ((oRows l n h).read (Elt F) g)
      = (oRows l n h).read (Elt F) (fun i => FloatOps.addf (f i) (g i) : Blk F) := rfl

/-! ## The finished array on a device's last band -/

/-- On the sixteen rows device `c` ends up with, the finished array is `c`'s last partial sum. -/
theorem fin_last (x : Dev nD → Blk F) (c : Dev nD) : ∀ i ∈ band 512 (lo 5 c) (wid 5), acc x 5 c i = fin x i := by
  intro i hi
  obtain ⟨h16, ho⟩ := own_lo c
  have hq : (i 0).val / 16 = lo 5 c / 16 := by
    rw [mem_band] at hi
    have : wid 5 = 16 := rfl
    omega
  unfold fin
  rw [hq, ho]

end Cert.CubeProof

end
-- ==== Proof.Protocol.lean ====
/-
# The schedule of the copies

A device's cells are its barrier semaphore, ten send semaphores and ten receive semaphores. Copy `k` belongs to step
`stepOf k`: the copies 0, …, 4 are the reduction's, the copies 5, …, 9 the gathering's, in the opposite order. Each cell has
one round. The barrier's round has one duty per partner, and hands over the partner's landing slot. A reduction copy
hands the receiver the landed rows together with the rows of the sender's output buffer they came from, which is where the
gathering copy of the same step will write. A gathering copy hands the receiver the finished rows, and the sender's own
come back with its send semaphore.
-/
module

public import proofs.«01_k».proof.Proof.Contents
public import Idealize.ShloMosaic.Lib.Tactic

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Device `c`'s output buffer on the rows `l`, …, `l + n - 1`, holding `f`. -/
def outB (c : Dev nD) (l n : ℕ) (f : Blk F) : sProp 𝕄 := ((c : Thread nD τ).loc cc0_stg1_0) ↦[band 512 l n]{fullShare} f

/-- Device `c`'s landing slot of step `s`, holding `f` there. -/
def slotB (c : Dev nD) (s : Fin 5) (f : S496x512.Idx → Elt F .f32) : sProp 𝕄 :=
  ((c : Thread nD τ).loc cc0_scratch0) ↦[band 496 (offS s) (wid (s + 1))]{fullShare} f

omit [FloatOps F] in
instance outB_storable (c : Dev nD) (l n : ℕ) (f : Blk F) : BI.Storable (upEmb : UEmb _ 𝕄) (outB c l n f) := by
  unfold outB; infer_instance
omit [FloatOps F] in
instance slotB_storable (c : Dev nD) (s : Fin 5) (f) : BI.Storable (upEmb : UEmb _ 𝕄) (slotB (F := F) c s f) := by
  unfold slotB; infer_instance

/-! ## The cells -/

/-- The runtime's barrier semaphore, the send and the receive semaphore of copy `k`. -/
abbrev barS : Sem sig := (SemArray.scalar (sig.barrier 0 rfl) : Sems sig S_).sem
set_option backward.proofsInPublic true in
def sendSem (k : Fin 10) : DmaSem sig := ⟨2 + k.val, by show 2 + k.val < 22; omega⟩
set_option backward.proofsInPublic true in
def recvSem (k : Fin 10) : DmaSem sig := ⟨12 + k.val, by show 12 + k.val < 22; omega⟩

abbrev barCell (c : Dev nD) : GSem nD τ sig := ((c : Thread nD τ), .reg barS)
abbrev sendCell (c : Dev nD) (k : Fin 10) : GSem nD τ sig := ((c : Thread nD τ), .dma (sendSem k))
abbrev recvCell (c : Dev nD) (k : Fin 10) : GSem nD τ sig := ((c : Thread nD τ), .dma (recvSem k))

/-- What a semaphore is for. -/
inductive Role where
  | bar | send (k : Fin 10) | recv (k : Fin 10) | other
deriving DecidableEq

set_option backward.proofsInPublic true in
/-- A semaphore's role, by its index: the first two belong to the staging buffers. -/
def role : SemLoc sig → Role
  | .reg _ => .bar
  | .dma q => if q.val < 2 then .other else if q.val < 12 then .send (Fin.ofNat 10 (q.val - 2)) else .recv (Fin.ofNat 10 (q.val - 12))

theorem role_bar : role (.reg barS) = .bar := rfl
theorem role_send : ∀ k : Fin 10, role (.dma (sendSem k)) = .send k := by decide
theorem role_recv : ∀ k : Fin 10, role (.dma (recvSem k)) = .recv k := by decide

set_option backward.proofsInPublic true in
/-- The step copy `k` belongs to. -/
def stepOf (k : Fin 10) : Fin 5 := if k.val < 5 then Fin.ofNat 5 k.val else Fin.ofNat 5 (9 - k.val)

/-- What a copy of step `s` credits a semaphore: the tiles of its rows. -/
def amt (s : Fin 5) : ℕ := RefSig.tileCredit ⟨2, ![wid (s + 1), 512]⟩ .f32

theorem amt_oRows (s : Fin 5) (l : ℕ) (h) : (oRows l (wid (s + 1)) h).dmaCredit = amt s := rfl
theorem amt_rRows (s : Fin 5) (l : ℕ) (h) : (rRows l (wid (s + 1)) h).dmaCredit = amt s := rfl
theorem amt_pos (s : Fin 5) : 0 < amt s := by
  rw [← amt_oRows s 0 (rows_inb (by fin_cases s <;> decide))]
  exact View.dmaCredit_pos _ (by fin_cases s <;> decide)

/-! ## What each round hands over -/

section Pay

variable (x : Dev nD → Blk F)

/-- Partner `prt s c`'s signal hands device `c` the partner's landing slot of step `s`. -/
def barPay (c : Dev nD) (s : Fin 5) : sProp 𝕄 := iprop(∃ f, slotB (F := F) (prt s c) s f)

/-- The reduction copy of step `s` hands device `c` its slot, holding the partner's partial sum on the rows `c` keeps, and
    those rows of the partner's output buffer. -/
def rsPay (c : Dev nD) (s : Fin 5) : sProp 𝕄 :=
  iprop((∃ f, ⌜(rRows (offS s) (wid (s + 1)) (rows_inb (offS_le s))).read (Elt F) f
          = (oRows (lo (s + 1) c) (wid (s + 1)) (rows_inb (lo_le s c))).read (Elt F) (acc x s (prt s c))⌝ ∗ slotB c s f)
    ∗ ∃ g, outB (prt s c) (lo (s + 1) c) (wid (s + 1)) g)

/-- The gathering copy of step `s` hands device `c` the rows it gave away, finished; -/
def agPay (c : Dev nD) (s : Fin 5) : sProp 𝕄 := outB c (gv s c) (wid (s + 1)) (fin x)
/-- and its send semaphore hands back the rows it sent. -/
def agBack (c : Dev nD) (s : Fin 5) : sProp 𝕄 := outB c (lo (s + 1) c) (wid (s + 1)) (fin x)

def sendPay (c : Dev nD) (k : Fin 10) : sProp 𝕄 := if k.val < 5 then iprop(emp) else agBack x c (stepOf k)
def recvPay (c : Dev nD) (k : Fin 10) : sProp 𝕄 := if k.val < 5 then rsPay x c (stepOf k) else agPay x c (stepOf k)

def duties (g : GSem nD τ sig) (r : ℕ) : Finset (Fin 5) :=
  if r = 0 ∧ g.1.2 = .tc then (match role g.2 with | .bar => Finset.univ | .send _ => {0} | .recv _ => {0} | .other => ∅) else ∅
def amount (g : GSem nD τ sig) : ℕ :=
  match role g.2 with | .bar => 1 | .send k => amt (stepOf k) | .recv k => amt (stepOf k) | .other => 1
def payload (g : GSem nD τ sig) (d : Fin 5) : sProp 𝕄 :=
  match role g.2 with | .bar => barPay g.1.1 d | .send k => sendPay x g.1.1 k | .recv k => recvPay x g.1.1 k | .other => iprop(emp)

theorem amount_pos (g : GSem nD τ sig) : 0 < amount g := by
  unfold amount; split
  · exact Nat.one_pos
  · exact amt_pos _
  · exact amt_pos _
  · exact Nat.one_pos

/-- The schedule: one round per cell, the duties, amounts and payloads above. -/
def rd : Rounds.Schedule (GSem nD τ sig) (Fin 5) 𝕄 where
  duties := duties
  unitless _ := False
  amount g _ _ := amount g
  payload g _ d := payload x g d
  amount_pos g _ _ _ := amount_pos g

instance rd_payload_storable (g : GSem nD τ sig) (r : ℕ) (d : Fin 5) :
    BI.Storable (upEmb : UEmb _ 𝕄) ((rd (F := F) x).payload g r d) := by
  show BI.Storable upEmb (payload x g d)
  unfold payload barPay sendPay recvPay rsPay agPay agBack
  (repeat' split) <;> infer_instance

variable (c : Dev nD) (k : Fin 10)

theorem duties_bar : (rd x).duties (barCell c) 0 = Finset.univ := rfl
theorem duties_send : (rd x).duties (sendCell c k) 0 = {0} := by
  dsimp only [rd, duties]; rw [if_pos ⟨rfl, rfl⟩, role_send]
theorem duties_recv : (rd x).duties (recvCell c k) 0 = {0} := by
  dsimp only [rd, duties]; rw [if_pos ⟨rfl, rfl⟩, role_recv]
theorem duties_later (g : GSem nD τ sig) : ∀ r, 1 ≤ r → (rd x).duties g r = ∅ :=
  fun r hr => by show duties _ _ = _; unfold duties; exact if_neg fun h => by omega

theorem amount_bar (d : Fin 5) : (rd x).amount (barCell c) 0 d = 1 := rfl
theorem amount_send (d : Fin 5) : (rd x).amount (sendCell c k) 0 d = amt (stepOf k) := by
  show amount _ = _; unfold amount; dsimp only; rw [role_send]
theorem amount_recv (d : Fin 5) : (rd x).amount (recvCell c k) 0 d = amt (stepOf k) := by
  show amount _ = _; unfold amount; dsimp only; rw [role_recv]

theorem expect_bar : (rd x).expect (barCell c) 0 = 5 := by
  unfold Schedule.expect Schedule.amountOf
  rw [duties_bar]; rfl
theorem expect_send : (rd x).expect (sendCell c k) 0 = amt (stepOf k) := by
  unfold Schedule.expect Schedule.amountOf; rw [duties_send, Finset.sum_singleton, amount_send]
theorem expect_recv : (rd x).expect (recvCell c k) 0 = amt (stepOf k) := by
  unfold Schedule.expect Schedule.amountOf; rw [duties_recv, Finset.sum_singleton, amount_recv]

theorem payload_bar (d : Fin 5) : (rd x).payload (barCell c) 0 d = barPay c d := rfl
theorem payload_send (d : Fin 5) : (rd x).payload (sendCell c k) 0 d = sendPay x c k := by
  show payload _ _ _ = _; unfold payload; dsimp only; rw [role_send]
theorem payload_recv (d : Fin 5) : (rd x).payload (recvCell c k) 0 d = recvPay x c k := by
  show payload _ _ _ = _; unfold payload; dsimp only; rw [role_recv]

/-- What the barrier wait receives: every partner's slot. -/
theorem rest_bar : bigSep ((rd x).duties (barCell c) 0 \ ∅) (fun d => (rd x).payload (barCell c) 0 d)
    = bigSep Finset.univ fun s : Fin 5 => barPay (F := F) c s := by
  rw [Finset.sdiff_empty, duties_bar]; rfl
theorem rest_send : bigSep ((rd x).duties (sendCell c k) 0 \ ∅) (fun d => (rd x).payload (sendCell c k) 0 d) = sendPay x c k := by
  rw [Finset.sdiff_empty, duties_send, bigSep_singleton, payload_send]
theorem rest_recv : bigSep ((rd x).duties (recvCell c k) 0 \ ∅) (fun d => (rd x).payload (recvCell c k) 0 d) = recvPay x c k := by
  rw [Finset.sdiff_empty, duties_recv, bigSep_singleton, payload_recv]

end Pay

/-! ## What a device owes, and the order of waiting -/

set_option backward.proofsInPublic true in
/-- The copy that is still to come when `n` copies come after it. -/
def kk (n : ℕ) : Fin 10 := ⟨9 - n, by omega⟩

/-- What device `c` owes its partners' receive cells when its last `n` copies are still to come, -/
def owR (c : Dev nD) : ℕ → CellTallies nD τ sig Unit
  | 0 => 0
  | n + 1 => owR c n + tallyAt (recvCell (prt (stepOf (kk n)) c) (kk n)) () (amt (stepOf (kk n)))

set_option backward.proofsInPublic true in
/-- The signal that is still to come when `n` signals come after it. -/
def ss (n : ℕ) : Fin 5 := ⟨4 - n, by omega⟩

/-- and when its last `n` signals and all its copies are. -/
def owB (c : Dev nD) : ℕ → CellTallies nD τ sig Unit
  | 0 => owR c 10
  | n + 1 => owB c n + tallyAt (barCell (prt (ss n) c)) () 1

abbrev O₀ (c : Dev nD) : CellTallies nD τ sig Unit := owB c 5

def L (g : GSem nD τ sig) : Finset Unit := if g.1.2 = .tc then {()} else ∅
/-- The barrier cells at level 1, receive cell `k` at level `2 + k`, all others at 0. -/
def lv (g : GSem nD τ sig) (_ : Unit) : ℕ := match role g.2 with | .bar => 1 | .recv k => 2 + k.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (k : Fin 10) : lv (sendCell c k) () = 0 := by unfold lv; dsimp only; rw [role_send]
theorem lv_recv (c : Dev nD) (k : Fin 10) : lv (recvCell c k) () = 2 + k.val := by unfold lv; dsimp only; rw [role_recv]

/-- Whatever is owed to a sum of two tallies is owed to one of them. -/
theorem pos_add {A B : CellTallies nD τ sig Unit} {g : GSem nD τ sig} {u : Unit} (h : 0 < (A + B) g u) : 0 < A g u ∨ 0 < B g u := by
  rw [Pi.add_apply, Finsupp.add_apply] at h; omega
theorem pos_tallyAt {g g' : GSem nD τ sig} {a : ℕ} {u : Unit} (h : 0 < tallyAt g' () a g u) : g = g' := by
  rw [tallyAt_apply] at h
  by_contra hn
  rw [if_neg fun h' => hn h'.1] at h
  exact Nat.lt_irrefl 0 h

/-- What is owed to the last `n` copies is owed to TensorCore cells at level `12 - n` or more. -/
theorem owR_pos (c : Dev nD) {g : GSem nD τ sig} {u : Unit} : ∀ n, 0 < owR c n g u → g.1.2 = .tc ∧ 12 - n ≤ lv g ()
  | 0, h => absurd h (Nat.lt_irrefl 0)
  | n + 1, h => by
    rcases pos_add h with h | h
    · obtain ⟨h1, h2⟩ := owR_pos c n h; exact ⟨h1, by omega⟩
    · cases pos_tallyAt h
      refine ⟨rfl, ?_⟩
      rw [lv_recv]; show _ ≤ 2 + (9 - n); omega

/-- With the signals, at level 1 or more. -/
theorem owB_pos (c : Dev nD) {g : GSem nD τ sig} {u : Unit} : ∀ n, 0 < owB c n g u → g.1.2 = .tc ∧ 1 ≤ lv g ()
  | 0, h => by obtain ⟨h1, h2⟩ := owR_pos c 10 h; exact ⟨h1, by omega⟩
  | n + 1, h => by
    rcases pos_add h with h | h
    · exact owB_pos c n h
    · cases pos_tallyAt h
      exact ⟨rfl, le_refl 1⟩

/-- A device may wait on a cell below everything it owes. -/
theorem mayWait_below (c : Dev nD) (sm : SemLoc sig) (b : ℕ) (hb : lv ((c : Thread nD τ), sm) () ≤ b) (O : CellTallies nD τ sig Unit)
    (hO : ∀ (g : GSem nD τ sig) (u : Unit), 0 < O g u → g.1.2 = .tc ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hb) (fun g u hg => (hO g u hg).2)

/-- It may wait on its barrier while it owes its copies, -/
theorem mayWait_bar (c : Dev nD) : (levAts L lv : sProp 𝕄) ⊢ MayWait (c : Thread nD τ) (.reg barS) () (owR c 10) :=
  mayWait_below c _ 1 (le_refl 1) _ fun g u h => ⟨(owR_pos c 10 h).1, by have := (owR_pos c 10 h).2; omega⟩
/-- on its send cells while it owes copies, -/
theorem mayWait_send (c : Dev nD) (k : Fin 10) (n : ℕ) (hn : n ≤ 9) :
    (levAts L lv : sProp 𝕄) ⊢ MayWait (c : Thread nD τ) (.dma (sendSem k)) () (owR c n) :=
  mayWait_below c _ 0 (by rw [lv_send]) _ fun g u h => ⟨(owR_pos c n h).1, by have := (owR_pos c n h).2; omega⟩
/-- and on receive cell `kk n` while it owes the `n` copies after it. -/
theorem mayWait_recv (c : Dev nD) (n : ℕ) (hn : n ≤ 9) :
    (levAts L lv : sProp 𝕄) ⊢ MayWait (c : Thread nD τ) (.dma (recvSem (kk n))) () (owR c n) :=
  mayWait_below c _ (11 - n) (by rw [lv_recv]; show 2 + (9 - n) ≤ _; omega) _
    fun g u h => ⟨(owR_pos c n h).1, by have := (owR_pos c n h).2; omega⟩

/-! ## What a device starts from -/

/-- A device's cells: its barrier, and for each copy its send (`false`) and its receive cell (`true`). -/
abbrev CIx : Type := Option (Bool × Fin 10)
abbrev osem : Bool × Fin 10 → SemLoc sig := fun p => if p.1 then .dma (recvSem p.2) else .dma (sendSem p.2)
abbrev csem : CIx → SemLoc sig := fun | none => .reg barS | some p => osem p
abbrev kcell (ck : Dev nD × CIx) : GSem nD τ sig := ((ck.1 : Thread nD τ), csem ck.2)

section Start

variable (x : Dev nD → Blk F)

/-- Every cell's invariant, under the names `K`, and that every cell has reached its round. -/
def records (K : Dev nD × CIx → ℕ) : sProp 𝕄 :=
  iprop((bigSep Finset.univ fun ck : Dev nD × CIx => cellInv ER (rd x) (K ck) (kcell ck))
    ∗ bigSep Finset.univ fun ck : Dev nD × CIx => reached ER (kcell ck) 0)

instance records_persistent (K : Dev nD × CIx → ℕ) : BI.Persistent (records x K) := by unfold records; infer_instance

theorem record_at (K : Dev nD × CIx → ℕ) (ck : Dev nD × CIx) :
    records x K ⊢ iprop(cellInv ER (rd x) (K ck) (kcell ck) ∗ reached ER (kcell ck) 0) :=
  BIClass.sep_mono (bigSep_elim (Finset.mem_univ ck)) (bigSep_elim (Finset.mem_univ ck))

/-- What device `c` needs for copy `k`: its places at its two cells, the rights to pay its own send cell and its partner's
    receive cell, and the credit of its own receive cell. -/
def kit (c : Dev nD) (k : Fin 10) : sProp 𝕄 :=
  iprop(atPos ER (sendCell c k) 0 ∅ 0 ∗ atPos ER (recvCell c k) 0 ∅ 0
    ∗ dutyTok ER (sendCell c k) 0 0 ∗ dutyTok ER (recvCell (prt (stepOf k) c) k) 0 0
    ∗ cred (tallyAt (recvCell c k) () (amt (stepOf k))))

/-- What device `c` starts its program from, beside its buffers. -/
def start (K : Dev nD × CIx → ℕ) (c : Dev nD) : sProp 𝕄 :=
  iprop(records x K ∗ levAts L lv ∗ atPos ER (barCell c) 0 ∅ 0 ∗ cred (tallyAt (barCell c) () 5)
    ∗ (bigSep Finset.univ fun s : Fin 5 => dutyTok ER (barCell (prt s c)) 0 s)
    ∗ bigSep Finset.univ fun k : Fin 10 => kit (F := F) c k)

/-- A copy's two cells at zero again. -/
def spent (c : Dev nD) (k : Fin 10) : sProp 𝕄 := iprop(semVal (sendCell c k) 0 ∗ semVal (recvCell c k) 0)

end Start

end Cert.CubeProof

end
-- ==== Proof.Steps.lean ====
/-
# One signal, one copy, one step

The rules the program is run by, each stated once for every step: a signal to a partner, the wait on a copy's send cell and
on its receive cell, and then a whole step of the reduction and a whole step of the gathering. Offsets, sizes, semaphores
and device numbers are parameters with the equation that says what they are, so that the program's own text fits.
-/
module

public import proofs.«01_k».proof.Proof.Protocol

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` runs on device `c` to the postcondition `Q`. -/
abbrev wpc (c : Dev nD) {α : Type} (p : Prog (TpuEff nD τ sig (Elt F) Λ₀ .tc) α)
    (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

section Rules

variable (x : Dev nD → Blk F) (K : Dev nD × CIx → ℕ) (c : Dev nD) {α : Type} {Q : α → sProp (MT nD τ sig Unit (Elt F) ℕ UU ℕ)}

/-- What every step uses and keeps: the cells' records and the order of waiting. -/
def know : sProp 𝕄 := iprop(records x K ∗ levAts L lv)

instance know_persistent : BI.Persistent (know x K) := by unfold know; infer_instance

/-- What device `c` owes, whatever it has waited on. -/
def due (O : CellTallies nD τ sig Unit) : sProp 𝕄 := iprop(∃ W : Waits sig Unit, owes (c : Thread nD τ) O W)

/-- The signal to the partner of step `s` hands it this device's slot of that step. -/
theorem wp_sig (n : ℕ) (s : Fin 5) (hs : ss n = s) {d : Dev nD} (hd : d = prt s c) {q : Sem sig} (hq : q = barS) {a : ℤ} (ha : a = ((1 : ℕ) : ℤ))
    {k : PUnit → Prog (TpuEff nD τ sig (Elt F) Λ₀ .tc) α} :
    iprop(know x K ∗ due (F := F) c (owB c (n + 1)) ∗ dutyTok ER (barCell (prt s c)) 0 s ∗ (∃ f, slotB (F := F) c s f))
      ⊢ iprop((due (F := F) c (owB c n) -∗ wpc c (k ⟨⟩) Q)
          -∗ wpc c (.op (.semSignal (d : Thread nD τ) q a) k) Q) := by
  subst hs hd hq ha
  unfold due know
  iintro ⟨⟨#HR, #HL⟩, ⟨%W, HO⟩, Ht, Hs⟩ Hk
  ihave HB := (record_at x K (prt (ss n) c, none)) $$ HR
  icases HB with ⟨#HI, #HRe⟩
  iapply (Rounds.wp_signal 𝒱₀ ER (rd x) (c : Thread nD τ) none (dst := (prt (ss n) c : Thread nD τ)) (κ := K (prt (ss n) c, none))
      (d := ss n) (by rw [duties_bar]; exact Finset.mem_univ _) (amount_bar x (prt (ss n) c) (ss n)) () (owB c n) rfl) $$ [HO Ht Hs]
  · isplitr; · iexact HI
    isplitl [HO]; · iexact HO
    isplitl [Ht]; · iexact Ht
    isplitl [Hs]
    · rw [payload_bar]; unfold barPay; rw [prt_prt]; iexact Hs
    iexact HRe
  iintro HO
  iapply Hk; iexists W; iexact HO

/-- The wait on the send cell of copy `k` brings what comes back with it, and leaves the cell at zero. -/
theorem wp_wait_send (n : ℕ) (hn : n ≤ 9) (k : Fin 10) {q : DmaSem sig} (hq : q = sendSem k)
    {sp sp' : Space} {s₁ s₂ : Shape} {e₁ e₂ : EltTy} {src : Memref sig .tc sp' s₂ e₂} {dst : Memref sig .tc sp s₁ e₁}
    {hsrc : src.view.WordExact} {hdst : dst.view.WordExact} (hamt : dst.view.dmaCredit = amt (stepOf k))
    {p : PUnit → Prog (TpuEff nD τ sig (Elt F) Λ₀ .tc) α} :
    iprop(know x K ∗ cred (tallyAt (sendCell c k) () (amt (stepOf k))) ∗ due (F := F) c (owR c n) ∗ atPos ER (sendCell c k) 0 ∅ 0)
      ⊢ iprop(((due (F := F) c (owR c n) ∗ sendPay x c k ∗ semVal (sendCell c k) 0) -∗ wpc c (p ⟨⟩) Q)
          -∗ wpc c (.op (.waitDma2 q src dst hsrc hdst) p) Q) := by
  subst hq
  unfold due know
  iintro ⟨⟨#HR, #HL⟩, Hc, ⟨%W, HO⟩, Hat⟩ Hk
  ihave HB := (record_at x K (c, some (false, k))) $$ HR
  icases HB with ⟨#HI, -⟩
  iapply (Rounds.wp_wait_rest_token 𝒱₀ ER (rd x) (c : Thread nD τ) none (κ := K (c, some (false, k)))
      (wpE_waitDma2_eq 𝒱₀ (c : Thread nD τ) none Set.univ) (Set.mem_univ _) () (O := owR c n) (W := W) (R := 0) (m := 0) (T := ∅)
      (by rw [Nat.zero_add, expect_send, hamt])) $$ [Hc HO Hat]
  · isplitr; · iexact HI
    isplitl [Hc]; · rw [hamt]; iexact Hc
    isplitl [HO]; · iexact HO
    isplitr; · iapply (mayWait_send c k n hn); iexact HL
    iexact Hat
  iintro ⟨HO, Hat, -, Hpay⟩
  ihave Hp := (Entails.of_eq (rest_send x c k)) $$ Hpay
  imod (Rounds.cell_close ER (rd x) (Set.mem_univ (K (c, some (false, k)))) (fun h => h) (R := 0 + 1) (duties_later x (sendCell c k))) $$ [Hat] with Hz
  · isplitr; · iexact HI
    iexact Hat
  iapply Hk
  isplitl [HO]; · iexists _; iexact HO
  isplitl [Hp] <;> iassumption

/-- The wait on the receive cell of copy `k`, likewise. -/
theorem wp_wait_recv (n : ℕ) (hn : n ≤ 9) (k : Fin 10) (hk : kk n = k) {q : DmaSem sig} (hq : q = recvSem k)
    {sp sp' : Space} {s₁ s₂ : Shape} {e₁ e₂ : EltTy} {src : Memref sig .tc sp' s₂ e₂} {dst : Memref sig .tc sp s₁ e₁}
    {hsrc : src.view.WordExact} {hdst : dst.view.WordExact} (hamt : dst.view.dmaCredit = amt (stepOf k))
    {p : PUnit → Prog (TpuEff nD τ sig (Elt F) Λ₀ .tc) α} :
    iprop(know x K ∗ cred (tallyAt (recvCell c k) () (amt (stepOf k))) ∗ due (F := F) c (owR c n) ∗ atPos ER (recvCell c k) 0 ∅ 0)
      ⊢ iprop(((due (F := F) c (owR c n) ∗ recvPay x c k ∗ semVal (recvCell c k) 0) -∗ wpc c (p ⟨⟩) Q)
          -∗ wpc c (.op (.waitDma2 q src dst hsrc hdst) p) Q) := by
  subst hk hq
  unfold due know
  iintro ⟨⟨#HR, #HL⟩, Hc, ⟨%W, HO⟩, Hat⟩ Hk
  ihave HB := (record_at x K (c, some (true, kk n))) $$ HR
  icases HB with ⟨#HI, -⟩
  iapply (Rounds.wp_wait_rest_token 𝒱₀ ER (rd x) (c : Thread nD τ) none (κ := K (c, some (true, kk n)))
      (wpE_waitDma2_eq 𝒱₀ (c : Thread nD τ) none Set.univ) (Set.mem_univ _) () (O := owR c n) (W := W) (R := 0) (m := 0) (T := ∅)
      (by rw [Nat.zero_add, expect_recv, hamt])) $$ [Hc HO Hat]
  · isplitr; · iexact HI
    isplitl [Hc]; · rw [hamt]; iexact Hc
    isplitl [HO]; · iexact HO
    isplitr; · iapply (mayWait_recv c n hn); iexact HL
    iexact Hat
  iintro ⟨HO, Hat, -, Hpay⟩
  ihave Hp := (Entails.of_eq (rest_recv x c (kk n))) $$ Hpay
  imod (Rounds.cell_close ER (rd x) (Set.mem_univ (K (c, some (true, kk n)))) (fun h => h) (R := 0 + 1) (duties_later x (recvCell c (kk n)))) $$ [Hat] with Hz
  · isplitr; · iexact HI
    iexact Hat
  iapply Hk
  isplitl [HO]; · iexists _; iexact HO
  isplitl [Hp] <;> iassumption

end Rules

end Cert.CubeProof

end
-- ==== Proof.Halves.lean ====
/-
# A whole step of the reduction, and of the gathering

A reduction step sends the half band a device gives away, waits for both ends of the copy, and adds the landed rows to the
half it keeps. A gathering step sends the finished half and waits for the other one. Each is one rule, for every step.
-/
module

public import proofs.«01_k».proof.Proof.Steps

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The points-to facts as the views state them -/

section Rows

theorem outB_rows (c : Dev nD) (l n : ℕ) (h) (f : Blk F) :
    (outB c l n f : sProp 𝕄) = ((oRows l n h).loc (c : Thread nD τ) ↦[(oRows l n h).set]{fullShare} f) := by
  unfold outB; rw [oRows_set]

theorem slotB_rows (c : Dev nD) (s : Fin 5) (h) (f : S496x512.Idx → Elt F .f32) :
    (slotB c s f : sProp 𝕄) = ((rRows (offS s) (wid (s + 1)) h).loc (c : Thread nD τ) ↦[(rRows (offS s) (wid (s + 1)) h).set]{fullShare} f) := by
  unfold slotB; rw [rRows_set]

/-- A device's band is the half it keeps and the half it gives. -/
theorem outB_halves (c : Dev nD) (s : Fin 5) (f : Blk F) :
    (outB c (lo s c) (wid s) f : sProp 𝕄)
      ⊣⊢ iprop(outB c (lo (s + 1) c) (wid (s + 1)) f ∗ outB c (gv s c) (wid (s + 1)) f) := by
  unfold outB; rw [half_union]; exact pointsTo_union (half_disjoint s c)

/-- Contents that agree on the rows are as good. -/
theorem outB_congr (c : Dev nD) (l n : ℕ) {f g : Blk F} (h : ∀ i ∈ band 512 l n, f i = g i) :
    (outB c l n f : sProp 𝕄) = outB c l n g := by
  unfold outB; exact pointsTo_congr h

end Rows

section Pays

variable (x : Dev nD → Blk F) (c : Dev nD) (s : Fin 5)

/-- What the reduction copy hands the partner, said of the sender. -/
theorem rsPay_prt : rsPay x (prt s c) s
    = iprop((∃ f, ⌜(rRows (offS s) (wid (s + 1)) (rows_inb (offS_le s))).read (Elt F) f
          = (oRows (gv s c) (wid (s + 1)) (rows_inb (gv_le s c))).read (Elt F) (acc x s c)⌝ ∗ slotB (prt s c) s f)
      ∗ ∃ g, outB c (gv s c) (wid (s + 1)) g) := by
  have H : ∀ (l : ℕ) (h) (h'), l = gv s c → (oRows l (wid (s + 1)) h).read (Elt F) (acc x s c) = (oRows (gv s c) (wid (s + 1)) h').read (Elt F) (acc x s c) := by
    rintro _ _ _ rfl; rfl
  unfold rsPay
  simp only [prt_prt, H _ _ (rows_inb (gv_le s c)) (lo_succ_prt s c)]
  rw [lo_succ_prt]

/-- What the gathering copy hands the partner, said of the sender. -/
theorem agPay_prt : agPay x (prt s c) s = outB (prt s c) (lo (s + 1) c) (wid (s + 1)) (fin x) := by
  unfold agPay; rw [gv_prt]

/-- The rows landed in the partner's slot and the rows they came from are what the reduction copy hands it. -/
theorem rs_landing (h₁) (h₃) (fd : S496x512.Idx → Elt F .f32) :
    iprop(((rRows (offS s) (wid (s + 1)) h₃).loc (prt s c : Thread nD τ) ↦[(rRows (offS s) (wid (s + 1)) h₃).set]{fullShare}
          ((rRows (offS s) (wid (s + 1)) h₃).write (Elt F) fd ((oRows (gv s c) (wid (s + 1)) h₁).read (Elt F) (acc x s c)) Finset.univ))
        ∗ ((oRows (gv s c) (wid (s + 1)) h₁).loc (c : Thread nD τ) ↦[(oRows (gv s c) (wid (s + 1)) h₁).set]{fullShare} acc x s c))
      ⊢ (rsPay x (prt s c) s : sProp 𝕄) := by
  rw [rsPay_prt, ← slotB_rows (prt s c) s h₃, ← outB_rows c _ _ h₁]
  iintro ⟨Hl, Hs⟩
  isplitl [Hl]
  · iexists _
    isplitr
    rotate_left
    · iexact Hl
    · ipureintro; exact View.read_write_univ _ _
  · iexists (acc x s c)
    iexact Hs

/-- The rows landed in the partner's output buffer are what the gathering copy hands it. -/
theorem ag_landing (h) (fd : Blk F) :
    ((oRows (lo (s + 1) c) (wid (s + 1)) h).loc (prt s c : Thread nD τ) ↦[(oRows (lo (s + 1) c) (wid (s + 1)) h).set]{fullShare}
          ((oRows (lo (s + 1) c) (wid (s + 1)) h).write (Elt F) fd ((oRows (lo (s + 1) c) (wid (s + 1)) h).read (Elt F) (fin x)) Finset.univ))
      ⊢ (agPay x (prt s c) s : sProp 𝕄) := by
  rw [agPay_prt, ← outB_rows (prt s c) _ _ h]
  exact Entails.of_eq (outB_congr _ _ _ (write_read_rows _ _ h _ _))

end Pays

theorem due_open (c : Dev nD) (O : CellTallies nD τ sig Unit) :
    (due (F := F) c O) ⊢ (iprop(∃ W : Waits sig Unit, owes (c : Thread nD τ) O W) : sProp 𝕄) := by unfold due; exact BI.Entails.refl _

section Steps

variable (x : Dev nD → Blk F) (K : Dev nD × CIx → ℕ) (c : Dev nD) {α : Type} {Q : α → sProp (MT nD τ sig Unit (Elt F) ℕ UU ℕ)}

/-- The reduction's step `s`, from the send to the store of the sums. -/
theorem wp_rs (n : ℕ) (hn : n ≤ 9) (k : Fin 10) (hk : kk n = k) (hk5 : k.val < 5) (s : Fin 5) (hs : stepOf k = s)
    {w : ℕ} (hw : w = wid (s + 1)) {o₁ o₂ o₃ : Fin 2 → ℕ} (ho₁ : o₁ = ![gv s c, 0]) (ho₂ : o₂ = ![lo (s + 1) c, 0]) (ho₃ : o₃ = ![offS s, 0])
    {h₁ : ∀ a, o₁ a + (![w, 512] : Fin 2 → ℕ) a ≤ S512x512.size a} {h₂ : ∀ a, o₂ a + (![w, 512] : Fin 2 → ℕ) a ≤ S512x512.size a}
    {h₃ : ∀ a, o₃ a + (![w, 512] : Fin 2 → ℕ) a ≤ S496x512.size a}
    {d : Dev nD} (hd : d = prt s c) {qs qr : DmaSem sig} (hqs : qs = sendSem k) (hqr : qr = recvSem k)
    {src : Memref sig .tc .vmem ⟨2, ![w, 512]⟩ .f32} (hsrc : src = (oM : Memref sig .tc .vmem S512x512 .f32).slice (Rect.unit (s := S512x512) o₁ ![w, 512] h₁) (fun _ => rfl))
    {dst : Memref sig .tc .vmem ⟨2, ![w, 512]⟩ .f32} (hdst : dst = (rM : Memref sig .tc .vmem S496x512 .f32).slice (Rect.unit (s := S496x512) o₃ ![w, 512] h₃) (fun _ => rfl))
    {hsc : dst.view.ref.isScScratch = false} {e₁ : src.view.WordExact} {e₂ : dst.view.WordExact}
    {hsem : DmaTarget.Typed .vmem (.dma qr) (.remote (Dev.tc d : Thread nD τ) dst (.dma qs) hsc)}
    {e₃ : dst.view.WordExact} {e₄ : src.view.WordExact} {e₅ : src.view.WordExact} {e₆ : dst.view.WordExact}
    {l₁ : (oM : Memref sig .tc .vmem S512x512 .f32).view.LoadsAt (Rect.unit (s := S512x512) o₂ ![w, 512] h₂).toLoadRect}
    {l₂ : (rM : Memref sig .tc .vmem S496x512 .f32).view.LoadsAt (Rect.unit (s := S496x512) o₃ ![w, 512] h₃).toLoadRect}
    {l₃ : (oM : Memref sig .tc .vmem S512x512 .f32).view.LoadsAt (Rect.unit (s := S512x512) o₂ ![w, 512] h₂).toLoadRect}
    {pay : Vec F ⟨2, ![w, 512]⟩ .f32 → Vec F ⟨2, ![w, 512]⟩ .f32 → FVec F ⟨2, ![w, 512]⟩ .f32} (hpay : ∀ v u, pay v u = addf v u)
    {hx : ((oM : Memref sig .tc .vmem S512x512 .f32).access (Rect.unit (s := S512x512) o₂ ![w, 512] h₂)).Stores Finset.univ}
    {hm : (Finset.univ : Finset (Rect.unit (s := S512x512) o₂ ![w, 512] h₂).shape.Idx) = Finset.univ ∨ ∀ a, (Rect.unit (s := S512x512) o₂ ![w, 512] h₂).stride a = 1}
    {p : PUnit → Prog (TpuEff nD τ sig (Elt F) Λ₀ .tc) α} :
    iprop(know x K ∗ kit c k ∗ due (F := F) c (owR c (n + 1)) ∗ outB c (lo s c) (wid s) (acc x s c) ∗ barPay (F := F) c s)
      ⊢ iprop(((due (F := F) c (owR c n) ∗ outB c (lo (s + 1) c) (wid (s + 1)) (acc x (s + 1) c) ∗ (∃ f, slotB (F := F) c s f)
            ∗ (∃ g, outB (F := F) (prt s c) (lo (s + 1) c) (wid (s + 1)) g) ∗ spent (F := F) c k) -∗ wpc c (p ⟨⟩) Q)
          -∗ wpc c (.op (.enqueueDma src (.remote (Dev.tc d : Thread nD τ) dst (.dma qs) hsc) (.dma qr) e₁ e₂ hsem) fun _ =>
              .op (.waitDma2 qs dst src e₃ e₄) fun _ => .op (.waitDma2 qr src dst e₅ e₆) fun _ =>
              .op (.load (oM : Memref sig .tc .vmem S512x512 .f32) (Rect.unit (s := S512x512) o₂ ![w, 512] h₂).toLoadRect l₁) fun v =>
              .op (.load (rM : Memref sig .tc .vmem S496x512 .f32) (Rect.unit (s := S496x512) o₃ ![w, 512] h₃).toLoadRect l₂) fun u =>
              .op (.load (oM : Memref sig .tc .vmem S512x512 .f32) (Rect.unit (s := S512x512) o₂ ![w, 512] h₂).toLoadRect l₃) fun _ =>
              .op (.store (oM : Memref sig .tc .vmem S512x512 .f32) (Rect.unit (s := S512x512) o₂ ![w, 512] h₂) (pay v u) Finset.univ hx hm) p) Q) := by
  subst hk hs hw ho₁ ho₂ ho₃ hd hqs hqr hsrc hdst
  unfold kit
  iintro ⟨#HK, ⟨HatS, HatV, HtS, HtV, HcV⟩, HO, Hband, Hslot⟩ Hk
  unfold know
  icases HK with ⟨#HR, #HL⟩
  unfold barPay
  icases Hslot with ⟨%fd, Hslot⟩
  ihave Hh := (outB_halves c (stepOf (kk n)) _).1 $$ Hband
  icases Hh with ⟨Hkeep, Hgive⟩
  ihave Hgive := (Entails.of_eq (outB_rows c _ _ h₁ _)) $$ Hgive
  ihave Hslot := (Entails.of_eq (slotB_rows (prt (stepOf (kk n)) c) _ h₃ _)) $$ Hslot
  ihave HB₁ := (record_at x K (c, some (false, kk n))) $$ HR
  icases HB₁ with ⟨#HI₁, #HRe₁⟩
  ihave HB₂ := (record_at x K (prt (stepOf (kk n)) c, some (true, kk n))) $$ HR
  icases HB₂ with ⟨#HI₂, #HRe₂⟩
  ihave HO := (due_open c _) $$ HO
  icases HO with ⟨%W, HO⟩
  -- the copy to the partner
  iapply (Rounds.wp_send_landing_pointsTo 𝒱₀ ER (rd x) (c : Thread nD τ) none (κ₁ := K (c, some (false, kk n))) (κ₂ := K (prt (stepOf (kk n)) c, some (true, kk n)))
    (r₁ := 0) (r₂ := 0) (d₁ := 0) (d₂ := 0) (fd := fd) (q := fullShare) (fs := acc x (stepOf (kk n)) c)
    (by rw [duties_send]; exact Finset.mem_singleton_self _) (by rw [duties_recv]; exact Finset.mem_singleton_self _)
    () () (amt (stepOf (kk n))) rfl (amount_send x c (kk n) 0) (amount_recv x (prt (stepOf (kk n)) c) (kk n) 0) (owR c n) rfl (W := W)
    (by rw [payload_send]; unfold sendPay; rw [if_pos hk5])
    (by
      rw [payload_recv]; unfold recvPay; rw [if_pos hk5]
      exact rs_landing x c (stepOf (kk n)) h₁ h₃ fd)) $$ [Hgive Hslot HO HtS HtV]
  · isplitr; · iexact HI₁
    isplitr; · iexact HI₂
    isplitl [Hgive]; · iexact Hgive
    isplitl [Hslot]; · iexact Hslot
    isplitl [HO]; · iexact HO
    isplitl [HtS]; · iexact HtS
    isplitr; · iexact HRe₁
    isplitl [HtV]; · iexact HtV
    iexact HRe₂
  iintro ⟨HcS, HO⟩
  -- its two ends
  iapply (wp_wait_send x K c n hn (kk n) rfl (amt_oRows _ _ h₁)) $$ [HcS HO HatS]
  · isplitr; · unfold know; isplitl [] <;> iassumption
    isplitl [HcS]; · iexact HcS
    isplitl [HO]; · unfold due; iexists W; iexact HO
    iexact HatS
  iintro ⟨HO, -, HzS⟩
  iapply (wp_wait_recv x K c n hn (kk n) rfl rfl (amt_rRows _ _ h₃)) $$ [HcV HO HatV]
  · isplitr; · unfold know; isplitl [] <;> iassumption
    isplitl [HcV]; · iexact HcV
    isplitl [HO]; · iexact HO
    iexact HatV
  unfold recvPay
  rw [if_pos hk5]
  unfold rsPay
  iintro ⟨HO, ⟨⟨%fl, %hfl, Hland⟩, Hpart⟩, HzV⟩
  -- the two reads, the third one idle, and the store
  ihave Hkeep := (Entails.of_eq (outB_rows c _ _ h₂ _)) $$ Hkeep
  ihave Hland := (Entails.of_eq (slotB_rows c _ h₃ _)) $$ Hland
  iapply (wp_load_rect 𝒱₀ (c : Thread nD τ) none Set.univ (m := oM) (r := Rect.unit (s := S512x512) _ _ h₂) (subset_refl _)) $$ Hkeep; iintro Hkeep
  iapply (wp_load_rect 𝒱₀ (c : Thread nD τ) none Set.univ (m := rM) (r := Rect.unit (s := S496x512) _ _ h₃) (subset_refl _)) $$ Hland; iintro Hland
  iapply (wp_load_rect 𝒱₀ (c : Thread nD τ) none Set.univ (m := oM) (r := Rect.unit (s := S512x512) _ _ h₂) (subset_refl _)) $$ Hkeep; iintro Hkeep
  iapply (wp_store 𝒱₀ (c : Thread nD τ) none Set.univ (m := oM) (r := Rect.unit (s := S512x512) _ _ h₂) (Mk := Finset.univ) (by rw [View.setOn_univ])) $$ Hkeep; iintro Hkeep
  iapply Hk
  isplitl [HO]; · iexact HO
  isplitl [Hkeep]
  · rw [hpay, show ((rM : Memref sig .tc .vmem S496x512 .f32).access (Rect.unit (s := S496x512) _ _ h₃)).read (Elt F) fl = _ from hfl]
    ihave Hkeep := (Entails.of_eq (outB_rows c _ _ h₂ _).symm) $$ Hkeep
    iapply (Entails.of_eq (outB_congr c _ _ (write_read_rows _ _ h₂ (acc x (stepOf (kk n)) c) (acc x (stepOf (kk n) + 1) c)))); iexact Hkeep
  isplitl [Hland]
  · iexists fl
    iapply (Entails.of_eq (slotB_rows c _ h₃ _).symm); iexact Hland
  isplitl [Hpart]; · iexact Hpart
  unfold spent
  isplitl [HzS] <;> iassumption

/-- The gathering's step `s`, from the send to both waits. -/
theorem wp_ag (n : ℕ) (hn : n ≤ 9) (k : Fin 10) (hk : kk n = k) (hk5 : ¬ k.val < 5) (s : Fin 5) (hs : stepOf k = s)
    {w : ℕ} (hw : w = wid (s + 1)) {o : Fin 2 → ℕ} (ho : o = ![lo (s + 1) c, 0])
    {h : ∀ a, o a + (![w, 512] : Fin 2 → ℕ) a ≤ S512x512.size a}
    {d : Dev nD} (hd : d = prt s c) {qs qr : DmaSem sig} (hqs : qs = sendSem k) (hqr : qr = recvSem k)
    {src : Memref sig .tc .vmem ⟨2, ![w, 512]⟩ .f32} (hsrc : src = (oM : Memref sig .tc .vmem S512x512 .f32).slice (Rect.unit (s := S512x512) o ![w, 512] h) (fun _ => rfl))
    {hsc : src.view.ref.isScScratch = false} {e₁ e₂ e₃ e₄ e₅ e₆ : src.view.WordExact}
    {hsem : DmaTarget.Typed .vmem (.dma qr) (.remote (Dev.tc d : Thread nD τ) src (.dma qs) hsc)}
    {p : PUnit → Prog (TpuEff nD τ sig (Elt F) Λ₀ .tc) α} :
    iprop(know x K ∗ kit c k ∗ due (F := F) c (owR c (n + 1)) ∗ outB c (lo (s + 1) c) (wid (s + 1)) (fin x)
        ∗ (∃ g, outB (F := F) (prt s c) (lo (s + 1) c) (wid (s + 1)) g))
      ⊢ iprop(((due (F := F) c (owR c n) ∗ outB c (lo s c) (wid s) (fin x) ∗ spent (F := F) c k) -∗ wpc c (p ⟨⟩) Q)
          -∗ wpc c (.op (.enqueueDma src (.remote (Dev.tc d : Thread nD τ) src (.dma qs) hsc) (.dma qr) e₁ e₂ hsem) fun _ =>
              .op (.waitDma2 qs src src e₃ e₄) fun _ => .op (.waitDma2 qr src src e₅ e₆) p) Q) := by
  subst hk hs hw ho hd hqs hqr hsrc
  unfold kit
  iintro ⟨#HK, ⟨HatS, HatV, HtS, HtV, HcV⟩, HO, Hhave, ⟨%fd, Hgoal⟩⟩ Hk
  unfold know
  icases HK with ⟨#HR, #HL⟩
  ihave Hhave := (Entails.of_eq (outB_rows c _ _ h _)) $$ Hhave
  ihave Hgoal := (Entails.of_eq (outB_rows (prt (stepOf (kk n)) c) _ _ h _)) $$ Hgoal
  ihave HB₁ := (record_at x K (c, some (false, kk n))) $$ HR
  icases HB₁ with ⟨#HI₁, #HRe₁⟩
  ihave HB₂ := (record_at x K (prt (stepOf (kk n)) c, some (true, kk n))) $$ HR
  icases HB₂ with ⟨#HI₂, #HRe₂⟩
  ihave HO := (due_open c _) $$ HO
  icases HO with ⟨%W, HO⟩
  iapply (Rounds.wp_send_pointsTo 𝒱₀ ER (rd x) (c : Thread nD τ) none (κ₁ := K (c, some (false, kk n))) (κ₂ := K (prt (stepOf (kk n)) c, some (true, kk n)))
    (r₁ := 0) (r₂ := 0) (d₁ := 0) (d₂ := 0) (fd := fd) (q := fullShare) (fs := fin x)
    (by rw [duties_send]; exact Finset.mem_singleton_self _) (by rw [duties_recv]; exact Finset.mem_singleton_self _)
    () () (amt (stepOf (kk n))) rfl (amount_send x c (kk n) 0) (amount_recv x (prt (stepOf (kk n)) c) (kk n) 0) (owR c n) rfl (W := W)
    (by
      rw [payload_send]; unfold sendPay; rw [if_neg hk5]; unfold agBack
      exact Entails.of_eq (outB_rows c _ _ h _).symm)
    (by
      rw [payload_recv]; unfold recvPay; rw [if_neg hk5]
      exact ag_landing x c (stepOf (kk n)) h fd)) $$ [Hhave Hgoal HO HtS HtV]
  · isplitr; · iexact HI₁
    isplitr; · iexact HI₂
    isplitl [Hhave]; · iexact Hhave
    isplitl [Hgoal]; · iexact Hgoal
    isplitl [HO]; · iexact HO
    isplitl [HtS]; · iexact HtS
    isplitr; · iexact HRe₁
    isplitl [HtV]; · iexact HtV
    iexact HRe₂
  iintro ⟨HcS, HO⟩
  iapply (wp_wait_send x K c n hn (kk n) rfl (amt_oRows _ _ h)) $$ [HcS HO HatS]
  · isplitr; · unfold know; isplitl [] <;> iassumption
    isplitl [HcS]; · iexact HcS
    isplitl [HO]; · unfold due; iexists W; iexact HO
    iexact HatS
  unfold sendPay
  rw [if_neg hk5]
  unfold agBack
  iintro ⟨HO, Hown, HzS⟩
  iapply (wp_wait_recv x K c n hn (kk n) rfl rfl (amt_oRows _ _ h)) $$ [HcV HO HatV]
  · isplitr; · unfold know; isplitl [] <;> iassumption
    isplitl [HcV]; · iexact HcV
    isplitl [HO]; · iexact HO
    iexact HatV
  unfold recvPay
  rw [if_neg hk5]
  unfold agPay
  iintro ⟨HO, Hgot, HzV⟩
  iapply Hk
  isplitl [HO]; · iexact HO
  isplitl [Hown Hgot]
  · iapply (outB_halves c (stepOf (kk n)) _).2
    isplitl [Hown] <;> iassumption
  unfold spent
  isplitl [HzS] <;> iassumption

end Steps

end Cert.CubeProof

end
-- ==== Proof.Body.lean ====
/-
# The program on one device

Device `c`, symbolic, runs the five signals, the barrier wait, the copy of its block into the output buffer, the five steps
of the reduction and the five of the gathering, each by its rule.
-/
module

public import proofs.«01_k».proof.Proof.Halves

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Small sums of resources -/

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## The scratch buffer and its five slots -/

/-- The slots of two different steps share nothing, -/
theorem slots_disjoint : ∀ s ∈ (Finset.univ : Finset (Fin 5)), ∀ t ∈ (Finset.univ : Finset (Fin 5)), s ≠ t →
    Disjoint (band 496 (offS s) (wid (s + 1))) (band 496 (offS t) (wid (t + 1))) := by
  have h : ∀ s t : Fin 5, s ≠ t → offS s + wid (s + 1) ≤ offS t ∨ offS t + wid (t + 1) ≤ offS s := by decide +kernel
  exact fun s _ t _ hst => band_disjoint (h s t hst)

/-- and the five make up the scratch buffer. -/
theorem slots_union : (Finset.univ : Finset (Fin 5)).biUnion (fun s => band 496 (offS s) (wid (s + 1))) = Finset.univ := by
  ext i
  have hi : (i 0).val < 496 := (i 0).isLt
  have h : ∀ r : Fin 496, ∃ s : Fin 5, offS s ≤ r.val ∧ r.val < offS s + wid (s + 1) := by decide +kernel
  simp only [Finset.mem_biUnion, Finset.mem_univ, true_and, mem_band, iff_true]
  exact h ⟨_, hi⟩

theorem slots_split (c : Dev nD) (f : S496x512.Idx → Elt F .f32) :
    (((c : Thread nD τ).loc cc0_scratch0) ↦{fullShare} f : sProp 𝕄) = bigSep Finset.univ fun s : Fin 5 => slotB c s f := by
  unfold slotB
  refine Eq.trans ?_ (pointsTo_biUnion (ℓ := (c : Thread nD τ).loc cc0_scratch0) Finset.univ (fun s : Fin 5 => band 496 (offS s) (wid (s + 1))) slots_disjoint)
  exact congrArg (fun S => (((c : Thread nD τ).loc cc0_scratch0) ↦[S]{fullShare} f : sProp 𝕄)) slots_union.symm

theorem slots_join (c : Dev nD) :
    (bigSep Finset.univ fun s : Fin 5 => iprop(∃ f, slotB (F := F) c s f))
      ⊢ (iprop(∃ f : S496x512.Idx → Elt F .f32, ((c : Thread nD τ).loc cc0_scratch0) ↦{fullShare} f) : sProp 𝕄) := by
  haveI : Nonempty (S496x512.Idx → Elt F .f32) := ⟨fun _ => FloatOps.ofBits .f32 0⟩
  iintro H
  ihave H := (BI.bigSep_exists_pi (Y := fun _ : Fin 5 => S496x512.Idx → Elt F .f32) Finset.univ (fun s f => slotB (F := F) c s f)) $$ H
  icases H with ⟨%fs, H⟩
  unfold slotB
  ihave H := (pointsTo_biUnion_join (ℓ := (c : Thread nD τ).loc cc0_scratch0) Finset.univ (fun s : Fin 5 => band 496 (offS s) (wid (s + 1))) fs (fs 0) slots_disjoint) $$ H
  icases H with ⟨%g, -, H⟩
  iexists g
  iapply (Entails.of_eq (congrArg (fun S => (((c : Thread nD τ).loc cc0_scratch0) ↦[S]{fullShare} g : sProp 𝕄)) slots_union)); iexact H

/-- The whole output buffer is the band of all its rows. -/
theorem outB_whole (c : Dev nD) (f : Blk F) : (outB c 0 512 f : sProp 𝕄) = (((c : Thread nD τ).loc cc0_stg1_0) ↦{fullShare} f) := by
  unfold outB; rw [band_all]

/-! ## The program's own terms -/

theorem hz : (![0, 0] : Fin 2 → Nat) = fun _ => 0 := funext fun a => by fin_cases a <;> rfl

theorem pay1_eq (v : Vec F S512x512 .f32) : k0_pay1 v = v := shapeCast_self _ _
theorem pay2_eq (v u : Vec F S256x512 .f32) : k0_pay2 v u = addf v u := by unfold k0_pay2; dsimp only; rw [shapeCast_self]
theorem pay3_eq (v u : Vec F S128x512 .f32) : k0_pay3 v u = addf v u := by unfold k0_pay3; dsimp only; rw [shapeCast_self]
theorem pay4_eq (v u : Vec F S64x512 .f32) : k0_pay4 v u = addf v u := by unfold k0_pay4; dsimp only; rw [shapeCast_self]
theorem pay5_eq (v u : Vec F S32x512 .f32) : k0_pay5 v u = addf v u := by unfold k0_pay5; dsimp only; rw [shapeCast_self]
theorem pay6_eq (v u : Vec F S16x512 .f32) : k0_pay6 v u = addf v u := by unfold k0_pay6; dsimp only; rw [shapeCast_self]

section Body

variable (x : Dev nD → Blk F) (K : Dev nD × CIx → ℕ) (c : Dev nD)

/-- What device `c` starts from, its buffers among it: the input's copy, the output buffer and the scratch at anything. -/
def bodyPre : sProp 𝕄 :=
  iprop(start x K c ∗ due (F := F) c (O₀ c) ∗ (((c : Thread nD τ).loc cc0_stg0_0) ↦{fullShare} x c)
    ∗ (∃ g : Blk F, ((c : Thread nD τ).loc cc0_stg1_0) ↦{fullShare} g)
    ∗ ∃ f : S496x512.Idx → Elt F .f32, ((c : Thread nD τ).loc cc0_scratch0) ↦{fullShare} f)

/-- What it ends with: the output buffer holding the finished array, and every semaphore at zero. -/
def bodyPost : sProp 𝕄 :=
  iprop(due (F := F) c 0 ∗ (((c : Thread nD τ).loc cc0_stg0_0) ↦{fullShare} x c)
    ∗ (((c : Thread nD τ).loc cc0_stg1_0) ↦{fullShare} fin x)
    ∗ (∃ f : S496x512.Idx → Elt F .f32, ((c : Thread nD τ).loc cc0_scratch0) ↦{fullShare} f)
    ∗ (bigSep Finset.univ fun k : Fin 10 => spent (F := F) c k) ∗ semVal (barCell c) 0)

set_option maxHeartbeats 4000000 in
/-- The program runs from the first to the second. -/
theorem sound_body (Kt : PUnit → sProp (MT nD τ sig Unit (Elt F) ℕ UU ℕ)) :
    iprop(bodyPre x K c ∗ (bodyPost x c -∗ Kt ⟨⟩))
      ⊢ wpc c (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  simp only [semSignalWord, semWaitWord, Prog.lift, Prog.bind_op, Prog.bind_ret, Prog.pure_eq_ret, wpc, wp_deviceId]
  unfold bodyPre start
  rw [bigSep_five, bigSep_ten]
  iintro ⟨⟨⟨#HR, #HL, HatB, HcB, ⟨Ht0, Ht1, Ht2, Ht3, Ht4⟩, ⟨H0, H1, H2, H3, H4, H5, H6, H7, H8, H9⟩⟩, HO, Hx, ⟨%g, Hout⟩, ⟨%f, Hscr⟩⟩, Hk⟩
  ihave Hs := (Entails.of_eq ((slots_split c f).trans (bigSep_five _))) $$ Hscr
  icases Hs with ⟨Hs0, Hs1, Hs2, Hs3, Hs4⟩
  ihave HK := (show iprop(records x K ∗ levAts L lv) ⊢ know (F := F) x K from Entails.rfl) $$ []
  · isplitl [] <;> iassumption
  icases HK with #HK
  -- the five signals
  iapply (wp_sig x K c 4 0 rfl (dev1_eq c) rfl rfl) $$ [HO Ht0 Hs0]
  · isplitr; · iexact HK
    isplitl [HO]; · iexact HO
    isplitl [Ht0]; · iexact Ht0
    iexists f; iexact Hs0
  iintro HO
  iapply (wp_sig x K c 3 1 rfl (dev2_eq c) rfl rfl) $$ [HO Ht1 Hs1]
  · isplitr; · iexact HK
    isplitl [HO]; · iexact HO
    isplitl [Ht1]; · iexact Ht1
    iexists f; iexact Hs1
  iintro HO
  iapply (wp_sig x K c 2 2 rfl (dev3_eq c) rfl rfl) $$ [HO Ht2 Hs2]
  · isplitr; · iexact HK
    isplitl [HO]; · iexact HO
    isplitl [Ht2]; · iexact Ht2
    iexists f; iexact Hs2
  iintro HO
  iapply (wp_sig x K c 1 3 rfl (dev4_eq c) rfl rfl) $$ [HO Ht3 Hs3]
  · isplitr; · iexact HK
    isplitl [HO]; · iexact HO
    isplitl [Ht3]; · iexact Ht3
    iexists f; iexact Hs3
  iintro HO
  iapply (wp_sig x K c 0 4 rfl (dev5_eq c) rfl rfl) $$ [HO Ht4 Hs4]
  · isplitr; · iexact HK
    isplitl [HO]; · iexact HO
    isplitl [Ht4]; · iexact Ht4
    iexists f; iexact Hs4
  iintro HO
  -- the barrier wait
  ihave HB := (record_at x K (c, none)) $$ HR
  icases HB with ⟨#HI, -⟩
  ihave HO := (due_open c _) $$ HO
  icases HO with ⟨%W, HO⟩
  iapply (Rounds.wp_wait_rest_token 𝒱₀ ER (rd x) (c : Thread nD τ) none (κ := K (c, none))
      (wpE_semWait_eq 𝒱₀ (c : Thread nD τ) none Set.univ) (Set.mem_univ _) () (O := owR c 10) (W := W) (R := 0) (m := 0) (T := ∅)
      (by rw [expect_bar]; decide)) $$ [HcB HO HatB]
  · isplitr; · iexact HI
    isplitl [HcB]; · iexact HcB
    isplitl [HO]; · iexact HO
    isplitr; · iapply (mayWait_bar c); iexact HL
    iexact HatB
  iintro ⟨HO, HatB, -, Hpay⟩
  ihave Hp := (Entails.of_eq ((rest_bar x c).trans (bigSep_five _))) $$ Hpay
  icases Hp with ⟨P0, P1, P2, P3, P4⟩
  imod (Rounds.cell_close ER (rd x) (Set.mem_univ (K (c, none))) (fun h => h) (R := 0 + 1) (duties_later x (barCell c))) $$ [HatB] with HzB
  · isplitr; · iexact HI
    iexact HatB
  ihave HO : due (F := F) c (owR c 10) $$ [HO]
  · unfold due; iexists _; iexact HO
  -- its block into the output buffer
  iapply (wp_load 𝒱₀ (c : Thread nD τ) none Set.univ (m := xM) (Finset.subset_univ _)) $$ Hx; iintro Hx
  rw [show (xM : Memref sig .tc .vmem S512x512 .f32).view.readAt (Elt F) (Rect.unit (s := S512x512) ![0, 0] S512x512.size inb_S512x512_S512x512_0_0).toLoadRect (x c) = x c from
    Memref.readAt_unit_zero (Elt F) cc0_stg0_0 hz _ _]
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0) (Mk := Finset.univ) (Finset.subset_univ _)) $$ Hout; iintro Hout
  rw [show ((oM : Memref sig .tc .vmem S512x512 .f32).access (Rect.unit (s := S512x512) ![0, 0] S512x512.size inb_S512x512_S512x512_0_0)).write (Elt F) g (k0_pay1 (x c)) Finset.univ = x c from
    (Memref.write_access_unit_zero_univ (Elt F) cc0_stg1_0 hz _ _ _).trans (pay1_eq _)]
  ihave Hout := (Entails.of_eq (outB_whole c (x c)).symm) $$ Hout
  -- the reduction
  iapply (wp_rs x K c 9 (by decide) 0 rfl (by decide) 0 rfl (w := 256) rfl (off1_eq c) (off2_eq c) rfl (dev6_eq c) rfl rfl rfl rfl
      (pay := k0_pay2) pay2_eq) $$ [HO H0 Hout P0]
  · isplitr; · iexact HK
    isplitl [H0]; · iexact H0
    isplitl [HO]; · iexact HO
    isplitl [Hout]; · iexact Hout
    iexact P0
  iintro ⟨HO, Hout, S0, D0, Z0⟩
  iapply (wp_rs x K c 8 (by decide) 1 rfl (by decide) 1 rfl (w := 128) rfl (off3_eq c) (off4_eq c) rfl (dev7_eq c) rfl rfl rfl rfl
      (pay := k0_pay3) pay3_eq) $$ [HO H1 Hout P1]
  · isplitr; · iexact HK
    isplitl [H1]; · iexact H1
    isplitl [HO]; · iexact HO
    isplitl [Hout]; · iexact Hout
    iexact P1
  iintro ⟨HO, Hout, S1, D1, Z1⟩
  iapply (wp_rs x K c 7 (by decide) 2 rfl (by decide) 2 rfl (w := 64) rfl (off5_eq c) (off6_eq c) rfl (dev8_eq c) rfl rfl rfl rfl
      (pay := k0_pay4) pay4_eq) $$ [HO H2 Hout P2]
  · isplitr; · iexact HK
    isplitl [H2]; · iexact H2
    isplitl [HO]; · iexact HO
    isplitl [Hout]; · iexact Hout
    iexact P2
  iintro ⟨HO, Hout, S2, D2, Z2⟩
  iapply (wp_rs x K c 6 (by decide) 3 rfl (by decide) 3 rfl (w := 32) rfl (off7_eq c) (off8_eq c) rfl (dev9_eq c) rfl rfl rfl rfl
      (pay := k0_pay5) pay5_eq) $$ [HO H3 Hout P3]
  · isplitr; · iexact HK
    isplitl [H3]; · iexact H3
    isplitl [HO]; · iexact HO
    isplitl [Hout]; · iexact Hout
    iexact P3
  iintro ⟨HO, Hout, S3, D3, Z3⟩
  iapply (wp_rs x K c 5 (by decide) 4 rfl (by decide) 4 rfl (w := 16) rfl (off9_eq c) (off10_eq c) rfl (dev10_eq c) rfl rfl rfl rfl
      (pay := k0_pay6) pay6_eq) $$ [HO H4 Hout P4]
  · isplitr; · iexact HK
    isplitl [H4]; · iexact H4
    isplitl [HO]; · iexact HO
    isplitl [Hout]; · iexact Hout
    iexact P4
  iintro ⟨HO, Hout, S4, D4, Z4⟩
  -- the rows it ends up with are finished
  ihave Hout := (show outB c (lo ((4 : Fin 5).val + 1) c) (wid ((4 : Fin 5).val + 1)) (acc x ((4 : Fin 5).val + 1) c)
      ⊢ (outB c (lo ((4 : Fin 5).val + 1) c) (wid ((4 : Fin 5).val + 1)) (fin x) : sProp 𝕄) from
    Entails.of_eq (outB_congr c _ _ (fin_last x c))) $$ Hout
  -- the gathering
  iapply (wp_ag x K c 4 (by decide) 5 rfl (by decide) 4 rfl (w := 16) rfl (off11_eq c) (dev11_eq c) rfl rfl rfl) $$ [HO H5 Hout D4]
  · isplitr; · iexact HK
    isplitl [H5]; · iexact H5
    isplitl [HO]; · iexact HO
    isplitl [Hout]; · iexact Hout
    iexact D4
  iintro ⟨HO, Hout, Z5⟩
  iapply (wp_ag x K c 3 (by decide) 6 rfl (by decide) 3 rfl (w := 32) rfl (off12_eq c) (dev12_eq c) rfl rfl rfl) $$ [HO H6 Hout D3]
  · isplitr; · iexact HK
    isplitl [H6]; · iexact H6
    isplitl [HO]; · iexact HO
    isplitl [Hout]; · iexact Hout
    iexact D3
  iintro ⟨HO, Hout, Z6⟩
  iapply (wp_ag x K c 2 (by decide) 7 rfl (by decide) 2 rfl (w := 64) rfl (off13_eq c) (dev13_eq c) rfl rfl rfl) $$ [HO H7 Hout D2]
  · isplitr; · iexact HK
    isplitl [H7]; · iexact H7
    isplitl [HO]; · iexact HO
    isplitl [Hout]; · iexact Hout
    iexact D2
  iintro ⟨HO, Hout, Z7⟩
  iapply (wp_ag x K c 1 (by decide) 8 rfl (by decide) 1 rfl (w := 128) rfl (off14_eq c) (dev14_eq c) rfl rfl rfl) $$ [HO H8 Hout D1]
  · isplitr; · iexact HK
    isplitl [H8]; · iexact H8
    isplitl [HO]; · iexact HO
    isplitl [Hout]; · iexact Hout
    iexact D1
  iintro ⟨HO, Hout, Z8⟩
  iapply (wp_ag x K c 0 (by decide) 9 rfl (by decide) 0 rfl (w := 256) rfl (off15_eq c) (dev15_eq c) rfl rfl rfl) $$ [HO H9 Hout D0]
  · isplitr; · iexact HK
    isplitl [H9]; · iexact H9
    isplitl [HO]; · iexact HO
    isplitl [Hout]; · iexact Hout
    iexact D0
  iintro ⟨HO, Hout, Z9⟩
  ihave Hout := (show outB c (lo ((0 : Fin 5).val) c) (wid ((0 : Fin 5).val)) (fin x)
      ⊢ (((c : Thread nD τ).loc cc0_stg1_0) ↦{fullShare} fin x : sProp 𝕄) from Entails.of_eq (outB_whole c (fin x))) $$ Hout
  unfold wpc; rw [wp_ret]; imodintro
  iapply Hk
  unfold bodyPost
  isplitl [HO]; · iexact HO
  isplitl [Hx]; · iexact Hx
  isplitl [Hout]; · iexact Hout
  isplitl [S0 S1 S2 S3 S4]
  · iapply ((Entails.of_eq (bigSep_five _).symm).trans (slots_join c))
    isplitl [S0]; · iexact S0
    isplitl [S1]; · iexact S1
    isplitl [S2]; · iexact S2
    isplitl [S3]; · iexact S3
    iexact S4
  isplitr [HzB]
  rotate_left
  · iexact HzB
  iapply (Entails.of_eq (bigSep_ten _).symm)
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  iexact Z9

end Body

end Cert.CubeProof

end
-- ==== Proof.Deal.lean ====
/-
# What the launch deals out

Before the devices run, every cell's invariant is allocated and every right is handed to the device that uses it: a device's
own places stay with it, its barrier's five rights go to its five partners, and each receive cell's right goes to the partner
that copies into it. The credit of a cell is what the devices owe it.
-/
module

public import proofs.«01_k».proof.Proof.Body

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ UU ℕ

/-! ## A device's cells -/

/-- Over a device's cells: the barrier, then each copy's two. -/
theorem bigSep_cells (Φ : CIx → sProp (MT nD τ sig Unit (Elt F) ℕ UU ℕ)) :
    bigSep Finset.univ Φ
      = iprop(Φ none ∗ (bigSep Finset.univ fun k : Fin 10 => Φ (some (false, k))) ∗ bigSep Finset.univ fun k : Fin 10 => Φ (some (true, k))) := by
  rw [bigSep_univ_equiv (Equiv.optionEquivSumPUnit.{0, 0} (Bool × Fin 10)).symm Φ, bigSep_univ_sum, bigSep_univ_of_subsingleton PUnit.unit,
    bigSep_univ_prod, bigSep_univ_eq_bigSepL [false, true] (by decide) (by decide), bigSepL_cons_cons, bigSepL_singleton]
  exact BI.Entails.antisymm BI.sep_comm BI.sep_comm

/-- Over the kernel's own cells: each copy's two. -/
theorem bigSep_own (Φ : Bool × Fin 10 → sProp (MT nD τ sig Unit (Elt F) ℕ UU ℕ)) :
    bigSep Finset.univ Φ
      = iprop((bigSep Finset.univ fun k : Fin 10 => Φ (false, k)) ∗ bigSep Finset.univ fun k : Fin 10 => Φ (true, k)) := by
  rw [bigSep_univ_prod, bigSep_univ_eq_bigSepL [false, true] (by decide) (by decide), bigSepL_cons_cons, bigSepL_singleton]
  rfl

/-- Over the ten copies, counted from the last. -/
theorem bigSep_copies (Ψ : Fin 10 → sProp (MT nD τ sig Unit (Elt F) ℕ UU ℕ)) :
    (bigSep (Finset.range 10) fun j => Ψ (kk j)) = bigSep Finset.univ Ψ := by
  rw [bigSep_eq_bigSepL_of_eq (S := Finset.range 10) [9, 8, 7, 6, 5, 4, 3, 2, 1, 0] (by decide) (by decide), bigSep_ten]
  rfl

theorem csem_injective : Function.Injective csem := by decide

theorem kcell_injective : Function.Injective (kcell : Dev nD × CIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- Every device's cells. -/
def allCells : Finset (GSem nD τ sig) := Finset.univ.map ⟨kcell, kcell_injective⟩

/-- A cell's rights: five on a barrier, one on every other. -/
abbrev TIx : Type := Fin 5 ⊕ (Bool × Fin 10)
abbrev tokOf (cj : Dev nD × TIx) : GSem nD τ sig × ℕ × Fin 5 :=
  match cj.2 with | .inl s => (barCell cj.1, 0, s) | .inr p => (kcell (cj.1, some p), 0, 0)

theorem tokOf_injective : Function.Injective (tokOf : Dev nD × TIx → GSem nD τ sig × ℕ × Fin 5) := by
  rintro ⟨c, j⟩ ⟨c', j'⟩ h
  have h1 : c = c' := by
    have := congrArg (fun x : GSem nD τ sig × ℕ × Fin 5 => x.1.1.1) h
    rcases j with s | p <;> rcases j' with s' | p' <;> exact this
  subst h1
  have h2 := congrArg (fun x : GSem nD τ sig × ℕ × Fin 5 => (x.1.2, x.2.2)) h
  rcases j with s | p <;> rcases j' with s' | p'
  · have : s = s' := congrArg Prod.snd h2
    rw [this]
  · exact absurd (csem_injective (a₁ := none) (a₂ := some p') (congrArg Prod.fst h2)) (by simp)
  · exact absurd (csem_injective (a₁ := some p) (a₂ := none) (congrArg Prod.fst h2)) (by simp)
  · have := csem_injective (a₁ := some p) (a₂ := some p') (congrArg Prod.fst h2)
    rw [Option.some.inj this]

/-- Every right minted. -/
def allToks : Finset (GSem nD τ sig × ℕ × Fin 5) := Finset.univ.map ⟨tokOf, tokOf_injective⟩

/-- The launch's element: the staging pipeline's, and the protocol's. -/
def u₀ : UU :=
  (initOf (Pipeline.cells cfgs cellOf_inj) (Pipeline.launchToks cfgs cellOf_inj), initOf allCells allToks)

section Deal

variable (x : Dev nD → Blk F)

/-- The rights on device `c`'s own cells. -/
def toks (c : Dev nD) : sProp 𝕄 :=
  iprop((bigSep Finset.univ fun s : Fin 5 => dutyTok ER (barCell c) 0 s)
    ∗ (bigSep Finset.univ fun k : Fin 10 => dutyTok ER (sendCell c k) 0 0)
    ∗ bigSep Finset.univ fun k : Fin 10 => dutyTok ER (recvCell c k) 0 0)

/-- The rights device `c` uses. -/
def payToks (c : Dev nD) : sProp 𝕄 :=
  iprop((bigSep Finset.univ fun s : Fin 5 => dutyTok ER (barCell (prt s c)) 0 s)
    ∗ (bigSep Finset.univ fun k : Fin 10 => dutyTok ER (sendCell c k) 0 0)
    ∗ bigSep Finset.univ fun k : Fin 10 => dutyTok ER (recvCell (prt (stepOf k) c) k) 0 0)

/-- Device `c`'s places at its own cells. -/
def places (c : Dev nD) : sProp 𝕄 := bigSep Finset.univ fun k : CIx => atPos ER (kcell (c, k)) 0 ∅ 0

/-- What the launch's element gives device `c`; -/
def G (c : Dev nD) : sProp 𝕄 :=
  iprop((bigSep Finset.univ fun k : CIx => roundState ER (rd x) (kcell (c, k)) 0)
    ∗ (places (F := F) c ∗ bigSep Finset.univ fun k : CIx => reached ER (kcell (c, k)) 0) ∗ toks (F := F) c)
/-- and what it holds once the invariants stand. -/
def G' (c : Dev nD) : sProp 𝕄 := iprop(∃ K, records x K ∗ places (F := F) c ∗ payToks (F := F) c)

theorem fund_all : BI.own (ER (initOf allCells allToks)) ⊢ (|==> bigSep Finset.univ (G x) : sProp 𝕄) := by
  have hX (Φ : GSem nD τ sig → sProp 𝕄) :
      bigSep allCells Φ = bigSep Finset.univ fun c : Dev nD => bigSep Finset.univ fun k : CIx => Φ (kcell (c, k)) := by
    unfold allCells; rw [bigSep_map, bigSep_univ_prod]; rfl
  have hT : bigSep allToks (fun y => (dutyTok ER y.1 y.2.1 y.2.2 : sProp 𝕄)) = bigSep Finset.univ fun c : Dev nD => toks c := by
    unfold allToks; rw [bigSep_map, bigSep_univ_prod]
    exact bigSep_congr fun c _ => by unfold toks; rw [bigSep_univ_sum, bigSep_own]; rfl
  iintro HX
  imod (Rounds.fund ER (rd x) allCells allToks) $$ HX with ⟨Hst, Hr, Hat, Htok⟩
  imodintro
  ihave Hst := (Entails.of_eq (hX fun g => roundState ER (rd x) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

/-! ## The semaphores at zero -/

theorem ownSems0_eq (c : Dev nD) : (Pipeline.ownSems0 (Ix := Unit) (Name := ℕ) (U := UU) (Lvl := ℕ) (Val := Elt F) (τ := τ) osem c : sProp 𝕄)
    = bigSep Finset.univ fun k : Fin 10 => spent (F := F) c k := by
  unfold Pipeline.ownSems0 spent; rw [bigSep_own, bigSep_sep']; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_cells]
  unfold Pipeline.ownSems0; rw [bigSep_own]
  iintro ⟨⟨HS, HV⟩, HB⟩
  isplitl [HB]; · iexact HB
  isplitl [HS] <;> iassumption

/-- A device's invariants allocated. -/
theorem alloc_one (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k : CIx => iprop(∃ κ : ℕ, cellInv ER (rd x) κ (kcell (c, k))))
          ∗ (places (F := F) c ∗ bigSep Finset.univ fun k : CIx => reached ER (kcell (c, k)) 0) ∗ toks (F := F) c) := by
  unfold G
  iintro ⟨Hos, Hus, Hst, Hat, Htok⟩
  ihave Hv := (sems0 (F := F) c) $$ [Hos Hus]
  · isplitl [Hos] <;> iassumption
  imod (show iprop((bigSep Finset.univ fun k : CIx => semVal (kcell (c, k)) 0) ∗ bigSep Finset.univ fun k : CIx => roundState ER (rd x) (kcell (c, k)) 0)
      ⊢ (|={Set.univ}=> bigSep Finset.univ fun k : CIx => iprop(∃ κ : ℕ, cellInv ER (rd x) κ (kcell (c, k))) : sProp 𝕄) from by
        rw [← bigSep_sep']
        exact (bigSep_mono fun k _ => (Rounds.body_intro ER (rd x) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights dealt -/

/-- A family over devices and something else, each member moved to the device's partner of a step. -/
theorem deal {J : Type} [Fintype J] (st : J → Fin 5) (Φ : Dev nD → J → sProp (MT nD τ sig Unit (Elt F) ℕ UU ℕ)) :
    (bigSep Finset.univ fun c : Dev nD => bigSep Finset.univ fun j : J => Φ c j)
      = bigSep Finset.univ fun c : Dev nD => bigSep Finset.univ fun j : J => Φ (prt (st j) c) j := by
  rw [bigSep_univ_comm, bigSep_univ_comm fun (c : Dev nD) j => Φ (prt (st j) c) j]
  exact bigSep_congr fun j _ => bigSep_univ_equiv (pair (st j)) fun c => Φ c j

theorem toks_dealt : (bigSep Finset.univ fun c : Dev nD => (toks c : sProp 𝕄)) = bigSep Finset.univ fun c : Dev nD => payToks c := by
  unfold toks payToks
  simp only [bigSep_sep']
  rw [deal (fun s : Fin 5 => s) (fun c s => (dutyTok ER (barCell c) 0 s : sProp 𝕄)),
    deal stepOf (fun c k => (dutyTok ER (recvCell c k) 0 0 : sProp 𝕄))]

theorem regroup :
    (bigSep Finset.univ fun c : Dev nD => iprop((bigSep Finset.univ fun k : CIx => iprop(∃ κ : ℕ, cellInv ER (rd x) κ (kcell (c, k))))
          ∗ (places (F := F) c ∗ bigSep Finset.univ fun k : CIx => reached ER (kcell (c, k)) 0) ∗ toks (F := F) c) : sProp 𝕄)
      ⊢ bigSep Finset.univ (G' x) := by
  rw [bigSep_sep', bigSep_sep', bigSep_sep', toks_dealt,
    ← bigSep_univ_prod (fun ck : Dev nD × CIx => iprop(∃ κ : ℕ, cellInv ER (rd x) κ (kcell ck))),
    ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (rd x) κ (kcell ck) : sProp 𝕄))) $$ HI
  icases HK with ⟨%K, #HI⟩
  iapply (bigSep_with_persistent (R := records x K) (Φ := fun c => iprop(places (F := F) c ∗ payToks (F := F) c)) fun c _ =>
    show iprop(records x K ∗ places (F := F) c ∗ payToks (F := F) c) ⊢ G' x c by
      unfold G'; iintro H; iexists K; iexact H)
  isplitr
  · unfold records; isplitl; · iexact HI
    iexact HR
  · rw [bigSep_sep']
    isplitl [Hat] <;> iassumption

/-- Every device's invariants allocated and every right dealt. -/
theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => alloc_one x c).trans (bigSep_fupd _ _)).trans (BI.fupd_mono (regroup x))

/-! ## The credits -/

/-- Partners signalling each other credits a cell with what one owes. -/
theorem cred_partner (s : Fin 5) (sm : SemLoc sig) (n : ℕ) (c : Dev nD) :
    (Pipeline.launchCred (fun d => tallyAt ((prt s d : Thread nD τ), sm) () n) c : sProp 𝕄) ⊢ cred (tallyAt ((c : Thread nD τ), sm) () n) :=
  Pipeline.launchCred_tallyAt sm (prt s) (prt s) (prt_prt s) (prt_prt s) () n c

theorem creds_recv (c : Dev nD) : ∀ n,
    (Pipeline.launchCred (fun d => owR d n) c : sProp 𝕄)
      ⊢ bigSep (Finset.range n) fun j => cred (tallyAt (recvCell c (kk j)) () (amt (stepOf (kk j))))
  | 0 => by
    rw [show (fun d : Dev nD => owR d 0) = fun _ => 0 from rfl, Pipeline.launchCred_zero, Finset.range_zero, BI.bigSep_empty]
    exact Entails.rfl
  | n + 1 => by
    rw [show (fun d : Dev nD => owR d (n + 1))
      = fun d => owR d n + tallyAt (recvCell (prt (stepOf (kk n)) d) (kk n)) () (amt (stepOf (kk n))) from rfl,
      Pipeline.launchCred_add, Finset.range_add_one, BI.bigSep_insert Finset.notMem_range_self]
    exact (BIClass.sep_mono (creds_recv c n) (cred_partner _ _ _ c)).trans BI.sep_comm

theorem creds_bar (c : Dev nD) : ∀ n,
    (Pipeline.launchCred (fun d => owB d n) c : sProp 𝕄)
      ⊢ iprop(Pipeline.launchCred (fun d => owR d 10) c ∗ cred (tallyAt (barCell c) () n))
  | 0 => by
    rw [tallyAt_zero, cred_zero]
    iintro H; isplitl; · iexact H
    iempintro
  | n + 1 => by
    rw [show (fun d : Dev nD => owB d (n + 1)) = fun d => owB d n + tallyAt (barCell (prt (ss n) d)) () 1 from rfl,
      Pipeline.launchCred_add, ← tallyAt_add]
    iintro ⟨H, H1⟩
    ihave H := (creds_bar c n) $$ H
    icases H with ⟨H, Hn⟩
    ihave H1 := (cred_partner (F := F) (ss n) (.reg barS) 1 c) $$ H1
    isplitl [H]; · iexact H
    iapply (cred_add _ _).2
    isplitl [Hn] <;> iassumption

/-- Device `c`'s credits: five units of its barrier, and each receive cell's amount. -/
theorem creds (c : Dev nD) :
    (Pipeline.launchCred O₀ c : sProp 𝕄)
      ⊢ iprop(cred (tallyAt (barCell c) () 5) ∗ bigSep Finset.univ fun k : Fin 10 => cred (tallyAt (recvCell c k) () (amt (stepOf k)))) := by
  iintro H
  ihave H := (creds_bar (F := F) c 5) $$ H
  icases H with ⟨HR, HB⟩
  isplitl [HB]; · iexact HB
  ihave HR := (creds_recv (F := F) c 10) $$ HR
  iapply (Entails.of_eq (bigSep_copies fun k : Fin 10 => (cred (tallyAt (recvCell c k) () (amt (stepOf k))) : sProp 𝕄))); iexact HR

/-! ## What a device starts from -/

theorem start_of (c : Dev nD) :
    iprop(levAts L lv ∗ Pipeline.launchCred O₀ c ∗ G' x c) ⊢ iprop(∃ K, start x K c) := by
  iintro ⟨#HL, Hcr, HG⟩
  ihave Hcr := (creds (F := F) c) $$ Hcr
  unfold G' places payToks
  icases HG with ⟨%K, #HR, Hat, Htb, Hts, Htr⟩
  icases Hcr with ⟨HcB, HcR⟩
  ihave Hat := (Entails.of_eq (bigSep_cells _)) $$ Hat
  icases Hat with ⟨HatB, HatS, HatR⟩
  iexists K
  unfold start kit
  isplitr; · iexact HR
  isplitr; · iexact HL
  isplitl [HatB]; · iexact HatB
  isplitl [HcB]; · iexact HcB
  isplitl [Htb]; · iexact Htb
  simp only [bigSep_sep']
  isplitl [HatS]; · iexact HatS
  isplitl [HatR]; · iexact HatR
  isplitl [Hts]; · iexact Hts
  isplitl [Htr]; · iexact Htr
  iexact HcR

end Deal

end Cert.CubeProof

end
-- ==== Proof.Launch.lean ====
/-
# The whole mesh

The staging pipeline's data, the obligation its body leaves, and the run of `@main` on all thirty-two devices from any memory:
it ends, every counter is zero, the argument holds what it held, and the result holds the finished array.
-/
module

public import proofs.«01_k».proof.Proof.Deal
public import Idealize.ShloMosaic.Lib.Pipeline.CollectiveSegs
public import Idealize.ShloMosaic.Lib.Tactic

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch

variable (m : (b : Loc nD τ sig) → Buf (Elt F) b) (ρ : Dev nD → PrngReg)

def s₀ : MemSt nD τ sig (Elt F) := ⟨m, fun _ => 0, ρ⟩

/-- Device `c`'s block, as staged. -/
def xstg (c : Dev nD) : Blk F := (win0_0.blk (0 : Fin 1)).view.read (Elt F) ((s₀ m ρ).mem ((c : Thread nD τ).loc main_arg0))

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The scratch, at anything. -/
def scr (c : Dev nD) : sProp 𝕄 := iprop(∃ f : S496x512.Idx → Elt F .f32, ((c : Thread nD τ).loc cc0_scratch0) ↦{fullShare} f)
/-- Before the program, -/
def Φ₀ (c : Dev nD) : sProp 𝕄 := iprop((∃ K, start (xstg m ρ) K c) ∗ scr (F := F) c)
/-- and after it. -/
def Φ₁ (c : Dev nD) : sProp 𝕄 :=
  iprop(scr (F := F) c ∗ (bigSep Finset.univ fun k : Fin 10 => spent (F := F) c k) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin (xstg m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp (MT nD τ sig Unit (Elt F) ℕ UU ℕ)) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer holding `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

set_option maxRecDepth 4000 in
def obPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def obPost (c : Dev nD) : sProp 𝕄 :=
  iprop(Φ₁ (F := F) c ∗ (dats m ρ 0 c).owesAt () t₀.succ ∗ stg c cc0_stg0_0 (xstg m ρ c) ∗ stg c cc0_stg1_0 (fin (xstg m ρ)))

set_option maxRecDepth 4000 in
theorem obligation (c : Dev nD) :
    obPre m ρ c ⊢ wpc c (cc0_body (Memref.whole cc0_stg0_0) (Memref.isWhole_whole _) (Memref.whole cc0_stg1_0) (Memref.isWhole_whole _)
            (Memref.whole cc0_scratch0) (Memref.isWhole_whole _) cc0_scratch1 cc0_scratch2) (fun _ => obPost m ρ c) := by
  unfold obPre Φ₀ stg Dat.owesAt Pipeline.owesWithin scr
  iintro ⟨⟨⟨%K, Hst⟩, Hscr⟩, ⟨%W, -, HO⟩, ⟨%d0, %g0, %hg0, Hx⟩, ⟨%d1, %g1, -, Hout⟩⟩
  have hx : g0 = xstg m ρ c := by rw [hg0]; unfold Dat.before; rw [if_pos (fetch_0 t₀)]; rfl
  subst hx
  iapply (sound_body (xstg m ρ) K c fun _ => obPost m ρ c)
  unfold bodyPre due
  isplitr []
  · isplitl [Hst]; · iexact Hst
    isplitl [HO]; · iexists W; iexact HO
    isplitl [Hx]; · iexact Hx
    isplitl [Hout]; · iexists g1; iexact Hout
    iexact Hscr
  unfold bodyPost obPost Φ₁ stg Dat.owesAt Pipeline.owesWithin scr due
  iintro ⟨⟨%W', HO⟩, Hx, Hout, Hscr, Hsp, Hb⟩
  isplitl [Hscr Hsp Hb]
  · isplitl [Hscr]; · iexact Hscr
    isplitl [Hsp] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- What the pipeline asks of the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact obligation m ρ c

/-! ## The theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop((∃ K, start (xstg m ρ) K c) ∗ emp) := by
  iintro ⟨-, Hlev, Hcr, -, HG⟩
  imodintro
  isplitl
  · iapply (start_of (xstg m ρ) c)
    isplitl [Hlev]; · iexact Hlev
    isplitl [Hcr] <;> iassumption
  · iempintro

theorem phi0_intro (c : Dev nD) :
    iprop((∃ K, start (xstg m ρ) K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, Hsp, Hb⟩
  isplitl [Hb]; · iexact Hb
  isplitl [Hsp]; · iexact Hsp
  iexact Hr

/-- The staging cells lie below all a device owes. -/
theorem mayWait_stage (c : Dev nD) (sm : SemLoc sig) (h : lv ((c : Thread nD τ), sm) () ≤ 0) :
    (levAts L lv : sProp 𝕄) ⊢ MayWait (c : Thread nD τ) sm () (O₀ c) :=
  mayWait_below c sm 0 h _ fun g u hg => ⟨(owB_pos c 5 hg).1, by have := (owB_pos c 5 hg).2; omega⟩

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> exact le_of_eq rfl)
    · show _ ⊢ MayWait _ _ _ 0
      rw [MayWait_zero]; iintro -; iempintro

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, whatever the order the devices and the copies take, `@main` ends on all thirty-two
    devices with every counter zero, the argument as it was and the result at the finished array. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_all (xstg m ρ)) $$ HX with HG
      imodintro
      isplitl [HP] <;> iassumption)
    (hglob := glob (xstg m ρ))
    (hA := fun _ _ => rfl) (hpf := fun _ k => k.elim0)
    (X := fun c => iprop(∃ K, start (xstg m ρ) K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result's one block is the whole array, and holds the finished array. -/
theorem finalA_o (c : Dev nD) : (win0_1.blk (0 : Fin 1)).view.read (Elt F) (finalA m ρ c (1 : Fin 2)) = fin (xstg m ρ) := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Launch

end Cert.CubeProof

end
-- ==== Proof.Value.lean ====
/-
# The value

Over the extended reals the partial sums are sums over ever larger groups of devices: 1, 2, 4, 8, 16 and at last all 32. So every
element of the finished array is the sum of that element over all the devices' blocks, which is what the reference computes
from the whole array.
-/
module

public import proofs.«01_k».proof.Proof.Contents
public import proofs.«01_k».proof.Proof.Gen.ReferenceIdeal.Run
public import Idealize.ShloMosaic.PureOps.Ideal.Laws
public import Idealize.ShloMosaic.Lib.Layout
public import Idealize.ShloMosaic.Lib.Pipeline.Value

@[expose] public section

noncomputable section

namespace Cert.CubeProof

open Cert.KernelIdeal Cert.KernelIdeal.Gen
open Idealize.ShloMosaic
open Idealize.ShloMosaic.TcCoe

/-! ## The kernel's side -/

/-- The devices whose blocks device `c` has summed before step `s`: its own, and with every step its partner's. -/
def group : ℕ → Dev nD → Finset (Dev nD)
  | 0, c => {c}
  | s + 1, c => group s c ∪ group s (prt s c)

/-- What the partner brings to a step is new. -/
theorem group_disjoint : ∀ (s : Fin 5) (c : Dev nD), Disjoint (group s c) (group s (prt s c)) := by decide +kernel

/-- After five steps every device is in. -/
theorem group_all : ∀ c : Dev nD, group 5 c = Finset.univ := by decide +kernel

/-- A partial sum is the sum over its group. -/
theorem acc_sum (x : Dev nD → Blk Ideal) (i : S512x512.Idx) : ∀ s, s ≤ 5 → ∀ c, acc x s c i = ∑ d ∈ group s c, x d i
  | 0, _, c => (Finset.sum_singleton _ _).symm
  | s + 1, hs, c => by
    have hd := group_disjoint ⟨s, hs⟩ c
    rw [show group (s + 1) c = group s c ∪ group s (prt s c) from rfl, Finset.sum_union hd,
      ← acc_sum x i s (by omega) c, ← acc_sum x i s (by omega) (prt s c)]
    rfl

/-- The finished array is the sum of all the blocks. -/
theorem fin_sum (x : Dev nD → Blk Ideal) (i : S512x512.Idx) : fin x i = ∑ d : Dev nD, x d i := by
  unfold fin
  rw [acc_sum x i 5 le_rfl, group_all]

/-! ## The reference's side -/

/-- The whole array, -/
abbrev Whole : Type := (⟨2, ![16384, 512]⟩ : Shape).Idx → Elt Ideal .f32

/-- what the reference computes from it, -/
def refValue (A : Whole) : Blk Ideal :=
  Host.reduceAdd (F := Ideal) (φ := .f32)
    (shapeCast Cert.ReferenceIdeal.S32x512x512 A Cert.ReferenceIdeal.Gen.facts.shapeCasts_S16384x512_S32x512x512)
    (constant Cert.ReferenceIdeal.S_ .f32 0x00000000#32) Cert.ReferenceIdeal.Gen.facts.reducesTo_S32x512x512_S512x512_d0
    Cert.ReferenceIdeal.Gen.facts.h_S_

/-- and device `d`'s block of it. -/
def part (A : Whole) (d : Dev nD) : Blk Ideal := Layout.block ⟨2, ![512, 512]⟩ ⟨2, ![16384, 512]⟩ 0 32 d A

/-- The sum's axis is the first of three. -/
theorem reduces_first : Shape.Reduces ⟨3, ![32, 512, 512]⟩ [0] ⟨2, ![512, 512]⟩ := by decide

/-- The array seen as 32 blocks of 512 rows holds, in block `d`, device `d`'s block. -/
theorem cast_part (A : Whole) (h : Shape.ShapeCasts ⟨2, ![16384, 512]⟩ ⟨3, ![32, 512, 512]⟩) (i : S512x512.Idx) (d : Dev nD) :
    shapeCast ⟨3, ![32, 512, 512]⟩ A h (reduces_first.lift i d) = part A d i := by
  unfold part
  rw [Layout.block_apply]
  refine shapeCast_apply A h _ _ ?_
  rw [Shape.rowMajor_val_two, Shape.rowMajor_val_three, (Layout.idx_rows_val _ d i).1, (Layout.idx_rows_val _ d i).2]
  rfl

/-- The reference's value is the sum of all the blocks too, -/
theorem ref_sum (A : Whole) (i : S512x512.Idx) : refValue A i = ∑ d : Dev nD, part A d i := by
  unfold refValue Host.reduceAdd
  rw [Ideal.hostReduceAdd_def, Ideal.hostReduceAdd_single _ reduces_first]
  refine (congrArg₂ (· + ·) Ideal.ofBits_zero_f32 (Finset.sum_congr rfl fun d _ => cast_part A _ i d)).trans (zero_add _)

/-- so the kernel's finished array is the reference's value, of whatever array the blocks are cut from. -/
theorem fin_eq_ref (A : Whole) : fin (part A) = refValue A :=
  funext fun i => (fin_sum _ i).trans (ref_sum A i).symm

end Cert.CubeProof

end
-- ==== Proof.lean ====
/-
# The claim

The three programs terminate with their argument unchanged and every counter zero; the ideal kernel is the kernel's own text;
and over the extended reals every device ends with the reference's value. The kernel's run is proved once, over any float
values (Proof/Launch.lean); here it is read at the words and at the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.CubeProof

/-- The kernel's argument and result are staged whole: the one block of each is the array. -/
theorem read_x {F : FTy → Type} [FloatOps F] (f : Cert.KernelIdeal.main_arg0.ty.Contents (Elt F)) :
    (Cert.KernelIdeal.win0_0.blk (0 : Fin 1)).view.read (Elt F) f = f :=
  Memref.read_access_unit_zero (Elt F) Cert.KernelIdeal.main_arg0 (funext fun a => by fin_cases a <;> decide)
    (fun a => by fin_cases a <;> decide) f

theorem read_o {F : FTy → Type} [FloatOps F] (f : Cert.KernelIdeal.main_v1.ty.Contents (Elt F)) :
    (Cert.KernelIdeal.win0_1.blk (0 : Fin 1)).view.read (Elt F) f = f :=
  Memref.read_access_unit_zero (Elt F) Cert.KernelIdeal.main_v1 (funext fun a => by fin_cases a <;> decide)
    (fun a => by fin_cases a <;> decide) f

/-- Over any float values the kernel terminates, its argument unchanged and every counter zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c (0 : Fin 2)).trans (finalA_x m ρ c), h.2⟩)
    (run_main (F := F) m ρ)

/-- The two kernels have one text: their kernel bodies are the same, -/
theorem bodies_eq {F : FTy → Type} [FloatOps F] : Cert.Kernel.defs₀ (F := F) = Cert.KernelIdeal.defs₀ (F := F) :=
  congrArg Defs.onTc (funext fun l => match l with | 0 => funext fun a => match a with | (_, _) => rfl)

/-- and so is all that they run. -/
theorem defs_eq {F : FTy → Type} [FloatOps F] : Cert.Kernel.defs (F := F) = Cert.KernelIdeal.defs (F := F) :=
  congrArg (Pipeline.defs Cert.KernelIdeal.pcfgs) bodies_eq

/-- So the kernel on the words terminates, its argument unchanged and every counter zero, -/
theorem frame_kernel : Cert.quiescent_Kernel := fun m ρ _ => by
  have h := frame_any (F := Bits) m ρ
  rw [← defs_eq] at h
  exact h

/-- and the kernel over the extended reals. -/
theorem frame_ideal : Cert.quiescent_KernelIdeal := fun m ρ _ => frame_any (F := Ideal) m ρ

/-- The reference over the extended reals: likewise. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- When the devices hold the 32 row blocks of the reference's array, every device ends with the reference's value. -/
theorem value : Cert.algebraic_KernelIdeal_ReferenceIdeal := by
  intro m ρ m' ρ' _ hagree
  refine ⟨refValue (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun _ h c =>
      ⟨(h.1 c (1 : Fin 2)).trans ?_, (h.1 c (0 : Fin 2)).trans (finalA_x m ρ c)⟩) (run_main (F := Ideal) m ρ)
    have hx : xstg m ρ = part (m' (((0 : Dev Cert.ReferenceIdeal.nD).tc : Thread Cert.ReferenceIdeal.nD
        Cert.ReferenceIdeal.τ).loc Cert.ReferenceIdeal.main_arg0)) :=
      funext fun d => (read_x (F := Ideal) _).trans (hagree d)
    exact (read_o (F := Ideal) _).symm.trans ((finalA_o m ρ c).trans ((congrArg fin hx).trans (fin_eq_ref _)))
  · exact (θ_run Cert.ReferenceIdeal.defs _ _).mono (fun _ h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
